-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_balanced [hKernelIdeal : Cert.KernelIdeal.Facts] [hReferenceIdeal : Cert.ReferenceIdeal.Facts] [hOn_balanced : Cert.On_balanced.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![1024]⟩ ⟨1, ![2048]⟩ (Layout.meshBlock [2, 2, 4] ![[1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 512]⟩ : Shape).Idx, (Layout.blockN ⟨2, ![1024, 512]⟩ ⟨2, ![2048, 512]⟩ (Layout.meshBlock [2, 2, 4] ![[1], []] c) ((Cert.On_balanced.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![1024, 512]⟩ : Shape).Idx → _) i = 1#1 → r.2.mem ((c.tc : Thread Cert.KernelIdeal.nD Cert.KernelIdeal.τ).loc Cert.KernelIdeal.main_v1) i = (Layout.blockN ⟨2, ![1024, 512]⟩ ⟨2, ![2048, 512]⟩ (Layout.meshBlock [2, 2, 4] ![[1], []] c) v0 : (⟨2, ![1024, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![2048, 512]⟩ : Shape).Idx, (Cert.On_balanced.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v7) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_balanced : Cert.On_balanced.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_balanced (hKernelIdeal := hKernelIdeal) (hReferenceIdeal := hReferenceIdeal) (hOn_balanced := hOn_balanced)
-- ==== On_balanced.lean ====
abbrev S2048x512 : Shape := ⟨2, ![2048, 512]⟩
abbrev S2048 : Shape := ⟨1, ![2048]⟩
abbrev S_ : Shape := ⟨0, ![]⟩

class Facts : Prop where
  bcast_S_S2048 : S_.BroadcastsInDim S2048 (![] : Fin 0 → Fin S2048.rank)
  natLt_1_32 : 1 < 32
  reducesTo_S2048_S_d0 : S2048.ReducesTo [0] S_
  h_S_ : 0 < S_.numel
  bcast_S_S2048x512 : S_.BroadcastsInDim S2048x512 (![] : Fin 0 → Fin S2048x512.rank)

variable [Facts]

def fn {F : FTy → Type} [FloatOps F] (main_arg0 : FVec F S2048x512 .f32) (main_arg1 : IVec S2048 32) : IVec S2048x512 1 :=
  let main_c : IVec S_ 32 := constantI S_ 32 0#32
  let main_v0 : IVec S2048 32 := broadcastInDim S2048 ![] bcast_S_S2048 main_c
  let main_v1 : IVec S2048 1 := cmpi .eq main_arg1 main_v0
  let main_v2 : IVec S2048 32 := (extui 32 · natLt_1_32) main_v1
  let main_c_0 : IVec S_ 32 := constantI S_ 32 0#32
  let main_v3 : IVec S_ 32 := (fun x v => Host.reduce IntOp.addi x v reducesTo_S2048_S_d0 h_S_) main_v2 main_c_0
  let main_c_1 : IVec S_ 32 := constantI S_ 32 1#32
  let main_v4 : IVec S2048 32 := broadcastInDim S2048 ![] bcast_S_S2048 main_c_1
  let main_v5 : IVec S2048 1 := cmpi .eq main_arg1 main_v4
  let main_v6 : IVec S2048 32 := (extui 32 · natLt_1_32) main_v5
  let main_c_2 : IVec S_ 32 := constantI S_ 32 0#32
  let main_v7 : IVec S_ 32 := (fun x v => Host.reduce IntOp.addi x v reducesTo_S2048_S_d0 h_S_) main_v6 main_c_2
  let main_c_3 : IVec S_ 32 := constantI S_ 32 1024#32
  let main_v8 : IVec S_ 1 := cmpi .eq main_v3 main_c_3
  let main_c_4 : IVec S_ 32 := constantI S_ 32 1024#32
  let main_v9 : IVec S_ 1 := cmpi .eq main_v7 main_c_4
  let main_v10 : IVec S_ 1 := andi main_v8 main_v9
  let main_v11 : IVec S2048x512 1 := broadcastInDim S2048x512 ![] bcast_S_S2048x512 main_v10
  main_v11
-- ==== Kernel.lean ====
abbrev S1024x512 : Shape := ⟨2, ![1024, 512]⟩
abbrev S1024 : Shape := ⟨1, ![1024]⟩
abbrev S2x1024x512 : Shape := ⟨3, ![2, 1024, 512]⟩
abbrev S2x8x128 : Shape := ⟨3, ![2, 8, 128]⟩
abbrev S10 : Shape := ⟨1, ![10]⟩
abbrev S8x128 : Shape := ⟨2, ![8, 128]⟩
abbrev S1x8x128 : Shape := ⟨3, ![1, 8, 128]⟩
abbrev S1x1024x512 : Shape := ⟨3, ![1, 1024, 512]⟩
abbrev S_ : Shape := ⟨0, ![]⟩
abbrev S1 : Shape := ⟨1, ![1]⟩
abbrev S1x256x512 : Shape := ⟨3, ![1, 256, 512]⟩
abbrev S256x512 : Shape := ⟨2, ![256, 512]⟩
abbrev S128x128 : Shape := ⟨2, ![128, 128]⟩
abbrev S16x16 : Shape := ⟨2, ![16, 16]⟩
abbrev S1024x128 : Shape := ⟨2, ![1024, 128]⟩
abbrev S16x128 : Shape := ⟨2, ![16, 128]⟩
abbrev S16x1 : Shape := ⟨2, ![16, 1]⟩
abbrev S1x128 : Shape := ⟨2, ![1, 128]⟩
abbrev S1024x1024 : Shape := ⟨2, ![1024, 1024]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S1024x512, .f32⟩
  | .local _ .vmem, ⟨0, _⟩ => ⟨S1024x512, .f32⟩
  | .local _ .vmem, ⟨1, _⟩ => ⟨S1024, .i32⟩
  | .local _ .vmem, ⟨2, _⟩ => ⟨S1024x512, .f32⟩
  | .local _ .vmem, ⟨3, _⟩ => ⟨S2x1024x512, .bf16⟩
  | .local _ .vmem, ⟨4, _⟩ => ⟨S2x8x128, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_off1 (d0 : Dev nD) : Fin 3 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : Index := Scalar.indexCast v5
  let c0_3 : Index := 0#32
  let c0_4 : Index := 0#32
  ![v13.toNat, 0, 0]
def k0_off2 (d0 : Dev nD) : Fin 3 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v20 : Index := Scalar.indexCast v5
  let c0_7 : Index := 0#32
  let c0_8 : Index := 0#32
  ![v20.toNat, 0, 0]
def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10 : BitVec 32 := 8#32
  let v25 : BitVec 32 := Scalar.muli v2 c8_i32_10
  let v26 : BitVec 32 := Scalar.addi c0_i32 v25
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_11 : BitVec 32 := 4#32
  let v27 : BitVec 32 := Scalar.muli v9 c4_i32_11
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v29 : BitVec 32 := Scalar.muli v8 c1_i32_12
  let v30 : BitVec 32 := Scalar.addi v28 v29
  v30.toNat
def k0_off3 (d0 : Dev nD) : Fin 3 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_20 : BitVec 32 := 0#32
  let c0_i32_21 : BitVec 32 := 0#32
  ![v5.toNat, 0, 0]
def k0_dev2 (d0 : Dev nD) : Nat :=
  let c0_i32_17 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_16 : BitVec 32 := 8#32
  let v31 : BitVec 32 := Scalar.muli v2 c8_i32_16
  let v32 : BitVec 32 := Scalar.addi c0_i32_17 v31
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_18 : BitVec 32 := 4#32
  let v33 : BitVec 32 := Scalar.muli v9 c4_i32_18
  let v34 : BitVec 32 := Scalar.addi v32 v33
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v35 : BitVec 32 := Scalar.muli v8 c1_i32_19
  let v36 : BitVec 32 := Scalar.addi v34 v35
  v36.toNat
def k0_off4 (d0 : Dev nD) : Fin 3 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_29 : BitVec 32 := 0#32
  let c0_i32_30 : BitVec 32 := 0#32
  ![v5.toNat, 0, 0]
def k0_dev3 (d0 : Dev nD) : Nat :=
  let c0_i32_26 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_25 : BitVec 32 := 8#32
  let v45 : BitVec 32 := Scalar.muli v2 c8_i32_25
  let v46 : BitVec 32 := Scalar.addi c0_i32_26 v45
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_27 : BitVec 32 := 4#32
  let v47 : BitVec 32 := Scalar.muli v9 c4_i32_27
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_28 : BitVec 32 := 1#32
  let v49 : BitVec 32 := Scalar.muli v8 c1_i32_28
  let v50 : BitVec 32 := Scalar.addi v48 v49
  v50.toNat
def k0_off5 (d0 : Dev nD) : Fin 3 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let c0_i32_38 : BitVec 32 := 0#32
  ![v5.toNat, 256, 0]
def k0_dev4 (d0 : Dev nD) : Nat :=
  let c0_i32_35 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_34 : BitVec 32 := 8#32
  let v59 : BitVec 32 := Scalar.muli v2 c8_i32_34
  let v60 : BitVec 32 := Scalar.addi c0_i32_35 v59
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_36 : BitVec 32 := 4#32
  let v61 : BitVec 32 := Scalar.muli v9 c4_i32_36
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v63 : BitVec 32 := Scalar.muli v8 c1_i32_37
  let v64 : BitVec 32 := Scalar.addi v62 v63
  v64.toNat
def k0_off6 (d0 : Dev nD) : Fin 3 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let c0_i32_45 : BitVec 32 := 0#32
  ![v5.toNat, 512, 0]
def k0_dev5 (d0 : Dev nD) : Nat :=
  let c0_i32_42 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_41 : BitVec 32 := 8#32
  let v73 : BitVec 32 := Scalar.muli v2 c8_i32_41
  let v74 : BitVec 32 := Scalar.addi c0_i32_42 v73
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_43 : BitVec 32 := 4#32
  let v75 : BitVec 32 := Scalar.muli v9 c4_i32_43
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v77 : BitVec 32 := Scalar.muli v8 c1_i32_44
  let v78 : BitVec 32 := Scalar.addi v76 v77
  v78.toNat
def k0_off7 (d0 : Dev nD) : Fin 3 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c768_i32 : BitVec 32 := 768#32
  let c0_i32_53 : BitVec 32 := 0#32
  ![v5.toNat, 768, 0]
def k0_dev6 (d0 : Dev nD) : Nat :=
  let c0_i32_50 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_49 : BitVec 32 := 8#32
  let v87 : BitVec 32 := Scalar.muli v2 c8_i32_49
  let v88 : BitVec 32 := Scalar.addi c0_i32_50 v87
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_51 : BitVec 32 := 4#32
  let v89 : BitVec 32 := Scalar.muli v9 c4_i32_51
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v91 : BitVec 32 := Scalar.muli v8 c1_i32_52
  let v92 : BitVec 32 := Scalar.addi v90 v91
  v92.toNat
def k0_off8 (d0 : Dev nD) : Fin 3 → Nat :=
  let c1_i32_91 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v221 : BitVec 32 := Scalar.subi c1_i32_91 v5
  let v222 : Index := Scalar.indexCast v221
  let c0_92 : Index := 0#32
  let c0_93 : Index := 0#32
  ![v222.toNat, 0, 0]
def k0_off9 (d0 : Dev nD) : Fin 3 → Nat :=
  let c1_i32_105 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v252 : BitVec 32 := Scalar.subi c1_i32_105 v5
  let v253 : Index := Scalar.indexCast v252
  let c256 : Index := 256#32
  let c0_106 : Index := 0#32
  ![v253.toNat, 256, 0]
def k0_off10 (d0 : Dev nD) : Fin 3 → Nat :=
  let c1_i32_118 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v283 : BitVec 32 := Scalar.subi c1_i32_118 v5
  let v284 : Index := Scalar.indexCast v283
  let c512 : Index := 512#32
  let c0_119 : Index := 0#32
  ![v284.toNat, 512, 0]
def k0_off11 (d0 : Dev nD) : Fin 3 → Nat :=
  let c1_i32_131 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v314 : BitVec 32 := Scalar.subi c1_i32_131 v5
  let v315 : Index := Scalar.indexCast v314
  let c768 : Index := 768#32
  let c0_132 : Index := 0#32
  ![v315.toNat, 768, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x512 : Shape := ⟨2, ![2048, 512]⟩
abbrev S2048 : Shape := ⟨1, ![2048]⟩
abbrev S_ : Shape := ⟨0, ![]⟩
abbrev S2048x1 : Shape := ⟨2, ![2048, 1]⟩

abbrev nBuf : Space → Nat
  | .hbm => 14
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S2048, .i32⟩
  | .hbm, ⟨3, _⟩ => ⟨S2048, .i32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Protocol.lean ====
/-
# The exchange: cells, contents and schedule

Sixteen devices on a (2, 2, 4) mesh; a device exchanges its tokens and its table of
destinations with the one other device that differs from it on the middle axis. Each device
has eleven cells: the barrier (number 0) and the ten transfer semaphores of the kernel's
scratch (numbers 1 to 10; an odd number is a send cell, the even number after it the receive
cell of the same transfer). Every cell has one round with one duty.

Both buffers of the exchange have, at the end, the same contents on the two devices of a pair:
slab `y` holds what the device of rank `y` of the pair brought.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the pipeline's rounds and the exchange's -/

abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The state at launch: any contents, zero counters, any generator registers. -/
def s₀ : MemSt nD τ sig (Elt F) := ⟨m, fun _ => 0, ρ⟩

/-! ## Pairs of devices -/

set_option backward.proofsInPublic true in
/-- The rank of a device in its pair: its coordinate on the mesh's middle axis. -/
def rk (c : Dev nD) : Fin 2 := ⟨c.val / 4 % 2, Nat.mod_lt _ (by decide)⟩

set_option backward.proofsInPublic true in
/-- The other device of the pair. -/
def peer (c : Dev nD) : Dev nD :=
  ⟨8 * (c.val / 8) + c.val % 4 + 4 - 4 * (c.val / 4 % 2), by have h : c.val < 16 := c.isLt; show _ < 16; omega⟩

/-- The device of rank `y` in the pair of `c`. -/
def pairAt (c : Dev nD) (y : Fin 2) : Dev nD := if y = rk c then c else peer c

theorem peer_peer (c : Dev nD) : peer (peer c) = c := by revert c; decide
theorem peer_ne (c : Dev nD) : peer c ≠ c := by revert c; decide
theorem rk_peer_ne (c : Dev nD) : rk (peer c) ≠ rk c := by revert c; decide
theorem pairAt_peer (c : Dev nD) (y : Fin 2) : pairAt (peer c) y = pairAt c y := by revert c y; decide
theorem pairAt_self (c : Dev nD) : pairAt c (rk c) = c := if_pos rfl
theorem pairAt_other (c : Dev nD) : pairAt c (rk (peer c)) = peer c := if_neg (rk_peer_ne c)
theorem ne_rk_iff (c : Dev nD) (y : Fin 2) : Iff (y ≠ rk c) (y = rk (peer c)) := by revert c y; decide

def swap : Dev nD ≃ Dev nD := ⟨peer, peer, peer_peer, peer_peer⟩

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)
theorem dev6_eq (c : Dev nD) : (⟨k0_dev6 c, k0_dev6_lt c⟩ : Dev nD) = peer c := Fin.ext (k0_dev6_eq c)

/-! ## Buffers, regions -/

abbrev xM : Memref sig .tc .vmem S1024x512 .f32 := Memref.whole cc0_stg0_0
abbrev eM : Memref sig .tc .vmem S1024 .i32 := Memref.whole cc0_stg1_0
abbrev oM : Memref sig .tc .vmem S1024x512 .f32 := Memref.whole cc0_stg2_0
abbrev sX : Memref sig .tc .vmem S2x1024x512 .bf16 := Memref.whole cc0_scratch0
abbrev sD : Memref sig .tc .vmem S2x8x128 .i32 := Memref.whole cc0_scratch1

abbrev locX (c : Dev nD) : Loc nD τ sig := (c : Thread nD τ).loc cc0_scratch0
abbrev locD (c : Dev nD) : Loc nD τ sig := (c : Thread nD τ).loc cc0_scratch1

/-- One slab of the table of destinations, as a transfer names it. -/
abbrev sliceD (off : Fin 3 → ℕ) (h : ∀ a, off a + S1x8x128.size a ≤ S2x8x128.size a) : Memref sig .tc .vmem S8x128 .i32 :=
  (sD.slice (Rect.unit (s := S2x8x128) off S1x8x128.size h) (fun _ => rfl)).squeeze S8x128 squeezes_S1x8x128_S8x128

/-- A quarter of one slab of the tokens, as a transfer names it. -/
abbrev sliceX (off : Fin 3 → ℕ) (h : ∀ a, off a + S1x256x512.size a ≤ S2x1024x512.size a) : Memref sig .tc .vmem S256x512 .bf16 :=
  (sX.slice (Rect.unit (s := S2x1024x512) off S1x256x512.size h) (fun _ => rfl)).squeeze S256x512 squeezes_S1x256x512_S256x512

/-- The slab an index lies in. -/
def topD (i : S2x8x128.Idx) : Fin 2 := i 0
def topX (i : S2x1024x512.Idx) : Fin 2 := i 0

/-- Slab `y` of the table. -/
def slabD (y : Fin 2) : Finset S2x8x128.Idx := Finset.univ.filter fun i => topD i = y
/-- Slab `y` of the tokens. -/
def slabX (y : Fin 2) : Finset S2x1024x512.Idx := Finset.univ.filter fun i => topX i = y
/-- Its `k`-th quarter. -/
def quarX (y : Fin 2) (k : ℕ) : Finset S2x1024x512.Idx :=
  Finset.univ.filter fun i => topX i = y ∧ 256 * k ≤ (i 1).val ∧ (i 1).val < 256 * k + 256

theorem mem_slabD {y : Fin 2} {i : S2x8x128.Idx} : Iff (i ∈ slabD y) (topD i = y) := by simp [slabD]
theorem mem_slabX {y : Fin 2} {i : S2x1024x512.Idx} : Iff (i ∈ slabX y) (topX i = y) := by simp [slabX]
theorem mem_quarX {y : Fin 2} {k : ℕ} {i : S2x1024x512.Idx} :
    Iff (i ∈ quarX y k) (topX i = y ∧ 256 * k ≤ (i 1).val ∧ (i 1).val < 256 * k + 256) := by simp [quarX]

theorem rectD_set {off : Fin 3 → ℕ} {h} {y : Fin 2} (ho : off = ![y.val, 0, 0]) :
    (Rect.unit (s := S2x8x128) off S1x8x128.size h).set = slabD y := by
  subst ho
  ext i
  have h1 : (i 1).val < 8 := (i 1).isLt
  have h2 : (i 2).val < 128 := (i 2).isLt
  rw [Rect.mem_set_unit, mem_slabD, Fin.ext_iff]
  change Iff _ ((i 0).val = y.val)
  constructor
  · intro H
    have H0 : y.val ≤ (i 0).val ∧ (i 0).val < y.val + 1 := H 0
    omega
  · intro H a
    match a with
    | 0 => show y.val ≤ (i 0).val ∧ (i 0).val < y.val + 1; omega
    | 1 => show 0 ≤ (i 1).val ∧ (i 1).val < 0 + 8; omega
    | 2 => show 0 ≤ (i 2).val ∧ (i 2).val < 0 + 128; omega

theorem rectX_set {off : Fin 3 → ℕ} {h} {y : Fin 2} (ho : off = ![y.val, 0, 0]) :
    (Rect.unit (s := S2x1024x512) off S1x1024x512.size h).set = slabX y := by
  subst ho
  ext i
  have h1 : (i 1).val < 1024 := (i 1).isLt
  have h2 : (i 2).val < 512 := (i 2).isLt
  rw [Rect.mem_set_unit, mem_slabX, Fin.ext_iff]
  change Iff _ ((i 0).val = y.val)
  constructor
  · intro H
    have H0 : y.val ≤ (i 0).val ∧ (i 0).val < y.val + 1 := H 0
    omega
  · intro H a
    match a with
    | 0 => show y.val ≤ (i 0).val ∧ (i 0).val < y.val + 1; omega
    | 1 => show 0 ≤ (i 1).val ∧ (i 1).val < 0 + 1024; omega
    | 2 => show 0 ≤ (i 2).val ∧ (i 2).val < 0 + 512; omega

theorem rectQ_set {off : Fin 3 → ℕ} {h} {y : Fin 2} {k : ℕ} (ho : off = ![y.val, 256 * k, 0]) :
    (Rect.unit (s := S2x1024x512) off S1x256x512.size h).set = quarX y k := by
  subst ho
  ext i
  have h2 : (i 2).val < 512 := (i 2).isLt
  rw [Rect.mem_set_unit, mem_quarX, Fin.ext_iff]
  change Iff _ ((i 0).val = y.val ∧ _)
  constructor
  · intro H
    have H0 : y.val ≤ (i 0).val ∧ (i 0).val < y.val + 1 := H 0
    have H1 : 256 * k ≤ (i 1).val ∧ (i 1).val < 256 * k + 256 := H 1
    omega
  · intro H a
    match a with
    | 0 => show y.val ≤ (i 0).val ∧ (i 0).val < y.val + 1; omega
    | 1 => show 256 * k ≤ (i 1).val ∧ (i 1).val < 256 * k + 256; omega
    | 2 => show 0 ≤ (i 2).val ∧ (i 2).val < 0 + 512; omega

theorem sliceD_set {off : Fin 3 → ℕ} {h} {y : Fin 2} (ho : off = ![y.val, 0, 0]) :
    ((sliceD off h).view.set : Finset S2x8x128.Idx) = slabD y :=
  (View.set_reshape _ _).trans ((View.set_slice_whole _ _).trans (rectD_set ho))

theorem sliceX_set {off : Fin 3 → ℕ} {h} {y : Fin 2} {k : ℕ} (ho : off = ![y.val, 256 * k, 0]) :
    ((sliceX off h).view.set : Finset S2x1024x512.Idx) = quarX y k :=
  (View.set_reshape _ _).trans ((View.set_slice_whole _ _).trans (rectQ_set ho))

theorem slabD_disjoint (c : Dev nD) : Disjoint (slabD (rk c)) (slabD (rk (peer c))) :=
  Finset.disjoint_left.mpr fun i h h' => rk_peer_ne c ((mem_slabD.mp h').symm.trans (mem_slabD.mp h))
theorem slabX_disjoint (c : Dev nD) : Disjoint (slabX (rk c)) (slabX (rk (peer c))) :=
  Finset.disjoint_left.mpr fun i h h' => rk_peer_ne c ((mem_slabX.mp h').symm.trans (mem_slabX.mp h))
theorem slabD_union (c : Dev nD) : slabD (rk c) ∪ slabD (rk (peer c)) = Finset.univ := by
  ext i
  simp only [Finset.mem_union, mem_slabD, Finset.mem_univ, iff_true]
  by_cases h : topD i = rk c
  · exact .inl h
  · exact .inr ((ne_rk_iff c _).mp h)
theorem slabX_union (c : Dev nD) : slabX (rk c) ∪ slabX (rk (peer c)) = Finset.univ := by
  ext i
  simp only [Finset.mem_union, mem_slabX, Finset.mem_univ, iff_true]
  by_cases h : topX i = rk c
  · exact .inl h
  · exact .inr ((ne_rk_iff c _).mp h)

theorem slabX_quarters (y : Fin 2) : slabX y = ((quarX y 0 ∪ quarX y 1) ∪ quarX y 2) ∪ quarX y 3 := by
  ext i
  have h1 : (i 1).val < 1024 := (i 1).isLt
  simp only [Finset.mem_union, mem_slabX, mem_quarX]
  constructor
  · intro h
    by_cases h0 : (i 1).val < 256
    · exact .inl (.inl (.inl ⟨h, by omega, by omega⟩))
    by_cases h1 : (i 1).val < 512
    · exact .inl (.inl (.inr ⟨h, by omega, by omega⟩))
    by_cases h2 : (i 1).val < 768
    · exact .inl (.inr ⟨h, by omega, by omega⟩)
    · exact .inr ⟨h, by omega, by omega⟩
  · rintro (((h | h) | h) | h) <;> exact h.1

theorem quarX_disj (y : Fin 2) {k k' : ℕ} (h : k ≠ k') : Disjoint (quarX y k) (quarX y k') :=
  Finset.disjoint_left.mpr fun i hi hi' => by
    have := (mem_quarX.mp hi).2; have := (mem_quarX.mp hi').2; omega

theorem slab_split (ℓ : Dev nD) (y : Fin 2) (q : PosShare TreeShare) (f : Buf (Elt F) (locX ℓ)) :
    (locX ℓ ↦[slabX y]{q} f : sProp 𝕄)
      ⊣⊢ iprop((((locX ℓ ↦[quarX y 0]{q} f) ∗ (locX ℓ ↦[quarX y 1]{q} f)) ∗ (locX ℓ ↦[quarX y 2]{q} f)) ∗ (locX ℓ ↦[quarX y 3]{q} f)) := by
  have e3 := pointsTo_union (Ix := Unit) (Name := ℕ) (U := UU) (Lvl := ℕ) (ℓ := locX ℓ) (q := q) (f := f) (I := ((quarX y 0 ∪ quarX y 1) ∪ quarX y 2)) (J := quarX y 3)
    (Finset.disjoint_union_left.mpr ⟨Finset.disjoint_union_left.mpr ⟨quarX_disj y (by decide), quarX_disj y (by decide)⟩, quarX_disj y (by decide)⟩)
  have e2 := pointsTo_union (Ix := Unit) (Name := ℕ) (U := UU) (Lvl := ℕ) (ℓ := locX ℓ) (q := q) (f := f) (I := (quarX y 0 ∪ quarX y 1)) (J := quarX y 2)
    (Finset.disjoint_union_left.mpr ⟨quarX_disj y (by decide), quarX_disj y (by decide)⟩)
  have e1 := pointsTo_union (Ix := Unit) (Name := ℕ) (U := UU) (Lvl := ℕ) (ℓ := locX ℓ) (q := q) (f := f) (I := quarX y 0) (J := quarX y 1) (quarX_disj y (by decide))
  rw [slabX_quarters y]
  exact ⟨e3.1.trans (sep_mono_left (e2.1.trans (sep_mono_left e1.1))), (sep_mono_left ((sep_mono_left e1.2).trans e2.2)).trans e3.2⟩

/-! ## Contents -/

/-- What the device's blocks are when staged: its tokens, its destinations. -/
def xstg (c : Dev nD) : (cc0_stg0_0 : Ref sig .tc).ty.Contents (Elt F) :=
  (win0_0.blk (0 : Fin 1)).view.read (Elt F) ((s₀ m ρ).mem ((c : Thread nD τ).loc main_arg0))
def dstg (c : Dev nD) : (cc0_stg1_0 : Ref sig .tc).ty.Contents (Elt F) :=
  (win0_1.blk (0 : Fin 1)).view.read (Elt F) ((s₀ m ρ).mem ((c : Thread nD τ).loc main_arg1))

set_option backward.proofsInPublic true in
/-- An index into one slab, from an index into the buffer. -/
def inD (i : S2x8x128.Idx) : S1x8x128.Idx := fun a => match a with
  | ⟨0, _⟩ => (0 : Fin 1) | ⟨1, _⟩ => i 1 | ⟨2, _⟩ => i 2
set_option backward.proofsInPublic true in
def inX (i : S2x1024x512.Idx) : S1x1024x512.Idx := fun a => match a with
  | ⟨0, _⟩ => (0 : Fin 1) | ⟨1, _⟩ => i 1 | ⟨2, _⟩ => i 2

/-- The table of destinations of the pair, slab by slab. -/
def tabD (c : Dev nD) : S2x8x128.Idx → Elt F .i32 := fun i => k0_pay1 (F := F) (dstg m ρ (pairAt c (topD i))) (inD i)
/-- The tokens of the pair, slab by slab. -/
def tabX (c : Dev nD) : S2x1024x512.Idx → Elt F .bf16 := fun i => k0_pay2 (F := F) (xstg m ρ (pairAt c (topX i))) (inX i)

theorem tabD_peer (c : Dev nD) : tabD m ρ (peer c) = tabD m ρ c := by funext i; unfold tabD; rw [pairAt_peer]
theorem tabX_peer (c : Dev nD) : tabX m ρ (peer c) = tabX m ρ c := by funext i; unfold tabX; rw [pairAt_peer]

/-! ## Cells -/

abbrev barS : Sem sig := (SemArray.scalar (sig.barrier 0 rfl) : Sems sig S_).sem

set_option backward.proofsInPublic true in
abbrev dmaS (j : Fin 10) : DmaSem sig := ⟨3 + j.val, by have := j.isLt; show _ < 13; omega⟩

/-- The semaphore of cell number `k`. -/
def csem (k : Fin 11) : SemLoc sig := if h : k.val = 0 then .reg barS else .dma (dmaS ⟨k.val - 1, by have := k.isLt; omega⟩)

/-- The number of a semaphore's cell. -/
def numOf : SemLoc sig → Option (Fin 11)
  | .reg s => if s = barS then some 0 else none
  | .dma q => if h : 3 ≤ q.val then some ⟨q.val - 2, by have : q.val < 13 := q.isLt; omega⟩ else none

theorem numOf_csem (k : Fin 11) : numOf (csem k) = some k := by revert k; decide

abbrev cell (c : Dev nD) (k : Fin 11) : GSem nD τ sig := ((c : Thread nD τ), csem k)

abbrev Nd : ℕ := (sliceD ![0, 0, 0] (by decide)).view.dmaCredit
abbrev Nx : ℕ := (sliceX ![0, 0, 0] (by decide)).view.dmaCredit
theorem Nd_pos : 0 < Nd := View.dmaCredit_pos _ (by decide)
theorem Nx_pos : 0 < Nx := View.dmaCredit_pos _ (by decide)

/-- What cell number `k` counts up to in its one round. -/
def amt (k : Fin 11) : ℕ := if k = 0 then 1 else if k = 1 ∨ k = 2 then Nd else Nx
theorem amt_pos (k : Fin 11) : 0 < amt k := by
  unfold amt; split; · exact Nat.one_pos
  split; · exact Nd_pos
  exact Nx_pos

/-! ## Payloads -/

/-- What the other device's signal hands over: its landing regions, whatever they hold. -/
def barPay (c : Dev nD) : sProp 𝕄 :=
  iprop((∃ f : Buf (Elt F) (locD (peer c)), locD (peer c) ↦[slabD (rk c)]{fullShare} f)
    ∗ (∃ f : Buf (Elt F) (locX (peer c)), locX (peer c) ↦[slabX (rk c)]{fullShare} f))

def dPay (c : Dev nD) (y : Fin 2) : sProp 𝕄 := iprop(locD c ↦[slabD y]{fullShare} tabD m ρ c)
def xPay (c : Dev nD) (y : Fin 2) (k : ℕ) (q : PosShare TreeShare) : sProp 𝕄 := iprop(locX c ↦[quarX y k]{q} tabX m ρ c)

/-- The payload of cell number `k` of device `c`. -/
def pay (c : Dev nD) (k : Fin 11) : sProp 𝕄 :=
  if k = 0 then barPay c
  else if k = 1 then dPay m ρ c (rk c)
  else if k = 2 then dPay m ρ c (rk (peer c))
  else if k.val % 2 = 1 then xPay m ρ c (rk c) ((k.val - 3) / 2) fullShare.right
  else xPay m ρ c (rk (peer c)) ((k.val - 4) / 2) fullShare

instance pay_storable (c : Dev nD) (k : Fin 11) : BI.Storable (upEmb : UEmb _ 𝕄) (pay (F := F) m ρ c k) := by
  unfold pay barPay dPay xPay
  (repeat' split) <;> infer_instance

/-! ## The schedule -/

def sched : Rounds.Schedule (GSem nD τ sig) Unit 𝕄 where
  duties g r := if r = 0 ∧ g.1.2 = .tc ∧ (numOf g.2).isSome = true then {()} else ∅
  unitless _ := False
  amount g _ _ := match numOf g.2 with | some k => amt k | none => 1
  payload g _ _ := match numOf g.2 with | some k => pay m ρ g.1.1 k | none => iprop(emp)
  amount_pos g _ _ _ := by
    split
    · exact amt_pos _
    · exact Nat.one_pos

instance sched_storable (g : GSem nD τ sig) (r : ℕ) (d : Unit) :
    BI.Storable (upEmb : UEmb _ 𝕄) ((sched (F := F) m ρ).payload g r d) := by
  show BI.Storable upEmb (match numOf g.2 with | some k => pay m ρ g.1.1 k | none => iprop(emp))
  split <;> infer_instance

section Sched
variable (c : Dev nD) (k : Fin 11)

theorem duties_cell : (sched (F := F) m ρ).duties (cell c k) 0 = {()} := by
  dsimp only [sched]; exact if_pos ⟨rfl, rfl, by rw [numOf_csem]; rfl⟩
theorem duties_later (g : GSem nD τ sig) : ∀ r, 1 ≤ r → (sched (F := F) m ρ).duties g r = ∅ :=
  fun r hr => by dsimp only [sched]; rw [if_neg fun h => by omega]
theorem amount_cell (d : Unit) : (sched (F := F) m ρ).amount (cell c k) 0 d = amt k := by
  dsimp only [sched]; rw [numOf_csem]
theorem payload_cell (d : Unit) : (sched (F := F) m ρ).payload (cell c k) 0 d = pay m ρ c k := by
  dsimp only [sched]; rw [numOf_csem]
theorem expect_cell : (sched (F := F) m ρ).expect (cell c k) 0 = amt k := by
  unfold Schedule.expect Schedule.amountOf; rw [duties_cell, Finset.sum_singleton, amount_cell]
theorem rest_cell :
    bigSep ((sched (F := F) m ρ).duties (cell c k) 0 \ ∅) (fun d => (sched (F := F) m ρ).payload (cell c k) 0 d) = pay m ρ c k := by
  rw [Finset.sdiff_empty, duties_cell, bigSep_singleton, payload_cell]

end Sched

/-! ## Debts and levels -/

/-- The credit of the other device's cells `ks`, the first listed outermost. -/
def owedOn (c : Dev nD) : List (Fin 11) → CellTallies nD τ sig Unit
  | [] => 0
  | k :: ks => owedOn c ks + tallyAt (cell (peer c) k) () (amt k)

/-- At launch a device owes the other's barrier one unit and its five receive cells their transfers. -/
abbrev O₀ (c : Dev nD) : CellTallies nD τ sig Unit := owedOn c [0, 2, 4, 6, 8, 10]

def L (g : GSem nD τ sig) : Finset Unit := if g.1.2 = .tc then {()} else ∅
/-- The barrier at 1, the receive cells at 2, everything else at 0. -/
def lv (g : GSem nD τ sig) (_ : Unit) : ℕ := match numOf g.2 with
  | some k => if k = 0 then 1 else if k.val % 2 = 0 then 2 else 0
  | none => 0

theorem L_of_ne (g : GSem nD τ sig) (h : g.1.2 ≠ .tc) : L g = ∅ := if_neg h
theorem L_tc (c : Dev nD) (sm : SemLoc sig) : L ((c : Thread nD τ), sm) = {()} := if_pos rfl

theorem cell_inj {c c' : Dev nD} {k k' : Fin 11} (h : cell c k = cell c' k') : c = c' ∧ k = k' := by
  refine ⟨congrArg (fun g : GSem nD τ sig => g.1.1) h, ?_⟩
  have := congrArg (fun g : GSem nD τ sig => numOf g.2) h
  dsimp only at this
  rw [numOf_csem, numOf_csem] at this
  exact Option.some.inj this

theorem owedOn_pos {c : Dev nD} {ks : List (Fin 11)} {g : GSem nD τ sig} {u : Unit} (h : 0 < owedOn c ks g u) :
    ∃ k ∈ ks, g = cell (peer c) k := by
  induction ks with
  | nil => exact absurd h (Nat.lt_irrefl 0)
  | cons k ks ih =>
    unfold owedOn at h
    rw [Pi.add_apply, Finsupp.add_apply, tallyAt_apply] at h
    by_cases hk : g = cell (peer c) k ∧ u = ()
    · exact ⟨k, List.mem_cons_self, hk.1⟩
    · rw [if_neg hk, Nat.add_zero] at h
      obtain ⟨k', hk', e⟩ := ih h
      exact ⟨k', List.mem_cons_of_mem _ hk', e⟩

theorem owedOn_apply (d c : Dev nD) (ks : List (Fin 11)) (hks : ks.Nodup) (k : Fin 11) :
    owedOn d ks (cell c k) () = if d = peer c ∧ k ∈ ks then amt k else 0 := by
  induction ks with
  | nil => rw [if_neg (fun h => by cases h.2)]; rfl
  | cons k' ks ih =>
    unfold owedOn
    rw [Pi.add_apply, Finsupp.add_apply, tallyAt_apply, ih (List.nodup_cons.mp hks).2]
    have hd : Iff (d = peer c) (c = peer d) := ⟨fun h => by rw [h, peer_peer], fun h => by rw [h, peer_peer]⟩
    by_cases hdc : d = peer c
    · by_cases hk : k = k'
      · subst hk
        rw [if_neg (fun h => (List.nodup_cons.mp hks).1 h.2), if_pos ⟨by rw [hdc, peer_peer], rfl⟩, if_pos ⟨hdc, List.mem_cons_self⟩, Nat.zero_add]
      · rw [if_neg (c := cell c k = cell (peer d) k' ∧ () = ()) (fun h => hk (cell_inj h.1).2), Nat.add_zero]
        by_cases hm : k ∈ ks
        · rw [if_pos ⟨hdc, hm⟩, if_pos ⟨hdc, List.mem_cons_of_mem _ hm⟩]
        · rw [if_neg (fun h => hm h.2), if_neg (fun h => by rcases List.mem_cons.mp h.2 with h | h <;> [exact hk h; exact hm h])]
    · rw [if_neg (fun h => hdc h.1), if_neg (fun h => hdc (hd.mpr (cell_inj h.1).1)), if_neg (fun h => hdc h.1)]

theorem lv_cell (c : Dev nD) (k : Fin 11) (u : Unit) : lv (cell c k) u = if k = 0 then 1 else if k.val % 2 = 0 then 2 else 0 := by
  dsimp only [lv]; rw [numOf_csem]

/-- A semaphore at level 0 may be waited for under any of the exchange's even-numbered debts. -/
theorem mayWait_stage (c : Dev nD) (q : DmaSem sig) (hq : numOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨k, -, rfl⟩ := owedOn_pos hg; exact Finset.mem_singleton_self _)
      (fun p hp => by rw [Finset.mem_singleton.mp hp]; dsimp only [lv]; rw [hq])
      (fun g u hg => by
        obtain ⟨k, hk, rfl⟩ := owedOn_pos hg
        rw [lv_cell]
        clear hg; revert k; decide)
  · rw [MayWait_zero]; iintro -; iempintro

/-- At its barrier wait a device owes receive credit only, above its barrier. -/
theorem mayWait_bar (c : Dev nD) :
    (levAts L lv : sProp 𝕄) ⊢ MayWait (c : Thread nD τ) (csem 0) () (owedOn c [2, 4, 6, 8, 10]) :=
  MayOwe.of_cut (L := L) (lev := lv) 1 (fun p hp => by rw [Finset.mem_singleton.mp hp, L_tc]; exact Finset.mem_singleton_self _)
    (fun g u hg => by obtain ⟨k, -, rfl⟩ := owedOn_pos hg; exact Finset.mem_singleton_self _)
    (fun p hp => by rw [Finset.mem_singleton.mp hp]; exact (lv_cell c 0 ()).le)
    (fun g u hg => by
      obtain ⟨k, hk, rfl⟩ := owedOn_pos hg
      rw [lv_cell]
      clear hg; revert k; decide)

end Cert.Exchange

end
-- ==== Proof.Steps.lean ====
/-
# The effects of the exchange, one rule each

What the stores, the transfers and the loads of the kernel do to the contents of the exchange's
two buffers, and the logic's rule for each kind of transfer and for a wait, at the cells of
`Protocol`.
-/
module

public import proofs.«01_k».proof.Proof.Protocol

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Contents -/

abbrev rectD (off : Fin 3 → ℕ) (h : ∀ a, off a + S1x8x128.size a ≤ S2x8x128.size a) : Rect S2x8x128 := Rect.unit (s := S2x8x128) off S1x8x128.size h
abbrev rectX (off : Fin 3 → ℕ) (h : ∀ a, off a + S1x1024x512.size a ≤ S2x1024x512.size a) : Rect S2x1024x512 := Rect.unit (s := S2x1024x512) off S1x1024x512.size h
abbrev rectQ (off : Fin 3 → ℕ) (h : ∀ a, off a + S1x256x512.size a ≤ S2x1024x512.size a) : Rect S2x1024x512 := Rect.unit (s := S2x1024x512) off S1x256x512.size h

/-- An index of one slab placed in the buffer, its top coordinate and itself again. -/
theorem rectD_emb {off : Fin 3 → ℕ} {h} {y : Fin 2} (ho : off = ![y.val, 0, 0]) (j : S1x8x128.Idx) :
    topD ((rectD off h).emb j) = y ∧ inD ((rectD off h).emb j) = j := by
  subst ho
  have h0 : (j 0).val < 1 := (j 0).isLt
  constructor
  · apply Fin.ext; show y.val + 1 * (j 0).val = y.val; omega
  · funext a
    apply Fin.ext
    match a with
    | 0 => show 0 = (j 0).val; omega
    | 1 => show 0 + 1 * (j 1).val = (j 1).val; omega
    | 2 => show 0 + 1 * (j 2).val = (j 2).val; omega

theorem rectX_emb {off : Fin 3 → ℕ} {h} {y : Fin 2} (ho : off = ![y.val, 0, 0]) (j : S1x1024x512.Idx) :
    topX ((rectX off h).emb j) = y ∧ inX ((rectX off h).emb j) = j := by
  subst ho
  have h0 : (j 0).val < 1 := (j 0).isLt
  constructor
  · apply Fin.ext; show y.val + 1 * (j 0).val = y.val; omega
  · funext a
    apply Fin.ext
    match a with
    | 0 => show 0 = (j 0).val; omega
    | 1 => show 0 + 1 * (j 1).val = (j 1).val; omega
    | 2 => show 0 + 1 * (j 2).val = (j 2).val; omega

set_option backward.proofsInPublic true in
/-- An index of the `k`-th quarter of a slab, as an index of the slab. -/
def ofQ (k : Fin 4) (j : S1x256x512.Idx) : S1x1024x512.Idx := fun a => match a with
  | ⟨0, _⟩ => (0 : Fin 1)
  | ⟨1, _⟩ => (⟨256 * k.val + (j 1).val, by have := k.isLt; have : (j 1).val < 256 := (j 1).isLt; omega⟩ : Fin 1024)
  | ⟨2, _⟩ => j 2

theorem rectQ_emb {off : Fin 3 → ℕ} {h} {y : Fin 2} {k : Fin 4} (ho : off = ![y.val, 256 * k.val, 0]) (j : S1x256x512.Idx) :
    topX ((rectQ off h).emb j) = y ∧ inX ((rectQ off h).emb j) = ofQ k j := by
  subst ho
  have h0 : (j 0).val < 1 := (j 0).isLt
  constructor
  · apply Fin.ext; show y.val + 1 * (j 0).val = y.val; omega
  · funext a
    apply Fin.ext
    match a with
    | 0 => rfl
    | 1 => show 256 * k.val + 1 * (j 1).val = 256 * k.val + (j 1).val; omega
    | 2 => show 0 + 1 * (j 2).val = (j 2).val; omega

/-- After the store of its own slab a device's table agrees with the pair's on that slab. -/
theorem stored_D (c : Dev nD) {off : Fin 3 → ℕ} {h} (ho : off = ![(rk c).val, 0, 0]) (f : Buf (Elt F) (locD c)) :
    (locD c ↦[slabD (rk c)]{fullShare} (sD.access (rectD off h)).write (Elt F) f (k0_pay1 (F := F) (dstg m ρ c)) Finset.univ : sProp 𝕄)
      = dPay m ρ c (rk c) := by
  refine pointsTo_congr fun i hi => ?_
  rw [← rectD_set (h := h) ho] at hi
  obtain ⟨j, rfl⟩ := LoadRect.exists_idx_of_mem _ hi
  have e := View.write_emb_of_mem (v := sD.access (rectD off h)) (Val := Elt F) f (k0_pay1 (F := F) (dstg m ρ c)) (M := Finset.univ) (Finset.mem_univ j)
  refine e.trans ?_
  obtain ⟨e1, e2⟩ := rectD_emb (h := h) ho j
  show _ = k0_pay1 (F := F) (dstg m ρ (pairAt c (topD ((rectD off h).emb j)))) (inD ((rectD off h).emb j))
  rw [e1, e2, pairAt_self]
  rfl

theorem stored_X (c : Dev nD) {off : Fin 3 → ℕ} {h} (ho : off = ![(rk c).val, 0, 0]) (f : Buf (Elt F) (locX c)) :
    (locX c ↦[slabX (rk c)]{fullShare} (sX.access (rectX off h)).write (Elt F) f (k0_pay2 (F := F) (xstg m ρ c)) Finset.univ : sProp 𝕄)
      = iprop(locX c ↦[slabX (rk c)]{fullShare} tabX m ρ c) := by
  refine pointsTo_congr fun i hi => ?_
  rw [← rectX_set (h := h) ho] at hi
  obtain ⟨j, rfl⟩ := LoadRect.exists_idx_of_mem _ hi
  have e := View.write_emb_of_mem (v := sX.access (rectX off h)) (Val := Elt F) f (k0_pay2 (F := F) (xstg m ρ c)) (M := Finset.univ) (Finset.mem_univ j)
  refine e.trans ?_
  obtain ⟨e1, e2⟩ := rectX_emb (h := h) ho j
  show _ = k0_pay2 (F := F) (xstg m ρ (pairAt c (topX ((rectX off h).emb j)))) (inX ((rectX off h).emb j))
  rw [e1, e2, pairAt_self]
  rfl

/-- The load of a device's own slab of the pair's tokens, -/
theorem load_own (c : Dev nD) {off : Fin 3 → ℕ} {h} (ho : off = ![(rk c).val, 0, 0]) :
    sX.view.readAt (Elt F) (rectX off h).toLoadRect (tabX m ρ c) = k0_pay2 (F := F) (xstg m ρ c) := by
  funext j
  obtain ⟨e1, e2⟩ := rectX_emb (h := h) ho j
  show k0_pay2 (F := F) (xstg m ρ (pairAt c (topX ((rectX off h).emb j)))) (inX ((rectX off h).emb j)) = _
  rw [e1, e2, pairAt_self]

/-- The `k`-th quarter of the other device's tokens. -/
def quarter (c : Dev nD) (k : Fin 4) : S1x256x512.Idx → Elt F .bf16 := fun j => k0_pay2 (F := F) (xstg m ρ (peer c)) (ofQ k j)

/-- and the load of a quarter of the other's. -/
theorem load_quarter (c : Dev nD) (k : Fin 4) {off : Fin 3 → ℕ} {h} (ho : off = ![(rk (peer c)).val, 256 * k.val, 0]) :
    sX.view.readAt (Elt F) (rectQ off h).toLoadRect (tabX m ρ c) = quarter m ρ c k := by
  funext j
  obtain ⟨e1, e2⟩ := rectQ_emb (h := h) ho j
  show k0_pay2 (F := F) (xstg m ρ (pairAt c (topX ((rectQ off h).emb j)))) (inX ((rectQ off h).emb j)) = _
  rw [e1, e2, pairAt_other]
  rfl

/-- A transfer of a region of contents `g` between two buffers leaves contents `g` there. -/
theorem sent_D (c : Dev nD) {off : Fin 3 → ℕ} {h} (g fd : Buf (Elt F) (locD c)) (i : S2x8x128.Idx)
    (hi : i ∈ ((sliceD off h).view.set : Finset S2x8x128.Idx)) :
    (sliceD off h).view.write (Elt F) fd ((sliceD off h).view.read (Elt F) g) Finset.univ i = g i := by
  obtain ⟨x, -, rfl⟩ := Finset.mem_map.mp hi
  exact View.write_emb_of_mem (v := (sliceD off h).view) (Val := Elt F) fd ((sliceD off h).view.read (Elt F) g) (Finset.mem_univ x)

theorem sent_X (c : Dev nD) {off : Fin 3 → ℕ} {h} (g fd : Buf (Elt F) (locX c)) (i : S2x1024x512.Idx)
    (hi : i ∈ ((sliceX off h).view.set : Finset S2x1024x512.Idx)) :
    (sliceX off h).view.write (Elt F) fd ((sliceX off h).view.read (Elt F) g) Finset.univ i = g i := by
  obtain ⟨x, -, rfl⟩ := Finset.mem_map.mp hi
  exact View.write_emb_of_mem (v := (sliceX off h).view) (Val := Elt F) fd ((sliceX off h).view.read (Elt F) g) (Finset.mem_univ x)

/-! ## Rules -/

variable (K : Dev nD × Fin 11 → ℕ)

/-- The transfer of the table's slab to the other device. -/
theorem wp_send_D (c n : Dev nD) (hn : n = peer c) {off : Fin 3 → ℕ} {h} (ho : off = ![(rk c).val, 0, 0]) (s1 s2 : DmaSem sig)
    (h1 : SemLoc.dma s1 = csem 1) (h2 : SemLoc.dma s2 = csem 2)
    {hsc : (sliceD off h : Memref sig (Dev.tc n : Thread nD τ).2.kind .vmem S8x128 .i32).view.ref.isScScratch = false}
    {hsrc : (sliceD off h).view.WordExact} {hdst : (sliceD off h).view.WordExact}
    {hsem : DmaTarget.Typed .vmem (.dma s2) (.remote (Dev.tc n : Thread nD τ) (sliceD off h) (.dma s1) hsc)}
    {α : Type} {Q : α → sProp 𝕄} {k : PUnit → Prog (TpuEff nD τ sig (Elt F) Λ₀ .tc) α}
    (fn : Buf (Elt F) (locD (peer c))) (O : CellTallies nD τ sig Unit) (W : Waits sig Unit) :
    iprop(cellInv ER (sched m ρ) (K (c, 1)) (cell c 1) ∗ cellInv ER (sched m ρ) (K (peer c, 2)) (cell (peer c) 2)
        ∗ dPay m ρ c (rk c) ∗ (locD (peer c) ↦[slabD (rk c)]{fullShare} fn)
        ∗ owes (c : Thread nD τ) (O + tallyAt (cell (peer c) 2) () (amt 2)) W
        ∗ dutyTok ER (cell c 1) 0 () ∗ reached ER (cell c 1) 0
        ∗ dutyTok ER (cell (peer c) 2) 0 () ∗ reached ER (cell (peer c) 2) 0)
      ⊢ iprop(((cred (tallyAt (cell c 1) () (amt 1)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sliceD off h) (.remote (Dev.tc n : Thread nD τ) (sliceD off h) (.dma s1) hsc) (.dma s2) hsrc hdst hsem) k) Q) := by
  subst hn
  have e1 : cell c 1 = ((c : Thread nD τ), SemLoc.dma s1) := by rw [h1]
  have e2 : cell (peer c) 2 = ((peer c : Thread nD τ), SemLoc.dma s2) := by rw [h2]
  have hs : slabD (rk c) = (sliceD off h).view.set := (sliceD_set ho).symm
  have r := Rounds.wp_send_pointsTo 𝒱₀ ER (sched m ρ) (c : Thread nD τ) none (c' := Dev.tc (peer c)) (Γ := PendingWaitsCtx.empty) (k := k) (Q := Q) (defs := defs₀ (F := F)) (κ₁ := K (c, 1)) (κ₂ := K (peer c, 2))
    (src := sliceD off h) (dst := (sliceD off h : Memref sig (Dev.tc (peer c) : Thread nD τ).2.kind .vmem S8x128 .i32)) (sS := .dma s1) (sem := .dma s2) (hsrc := hsrc) (hdst := hdst) (hsem := hsem)
    (q := fullShare) (fs := tabD m ρ c) (r₁ := 0) (r₂ := 0) (d₁ := ()) (d₂ := ()) (fd := fn) (Es := Set.univ)
    (by rw [← e1, duties_cell]; exact Finset.mem_singleton_self _) (by rw [← e2, duties_cell]; exact Finset.mem_singleton_self _)
    () () Nd rfl (by rw [← e1, amount_cell]; rfl) (by rw [← e2, amount_cell]; rfl) O rfl (W := W)
    (by rw [← e1, payload_cell]; exact Entails.of_eq (by rw [← hs]; rfl))
    (by
      rw [← e2, payload_cell]
      refine Entails.of_eq ?_
      show _ = dPay m ρ (peer c) (rk (peer (peer c)))
      unfold dPay
      rw [peer_peer, tabD_peer, hs]
      exact pointsTo_congr (fun i hi => sent_D (peer c) (tabD m ρ c) fn i hi))
  rw [← hs, ← e1, ← e2] at r
  exact r

/-- The transfer of the `j`-th quarter of its tokens to the other device, of a half share of it. -/
theorem wp_send_X (c n : Dev nD) (hn : n = peer c) (j : ℕ) {off : Fin 3 → ℕ} {h} (ho : off = ![(rk c).val, 256 * j, 0]) (s1 s2 : DmaSem sig) (k1 k2 : Fin 11)
    (h1 : SemLoc.dma s1 = csem k1) (h2 : SemLoc.dma s2 = csem k2) (a1 : amt k1 = Nx) (a2 : amt k2 = Nx)
    (p1 : pay m ρ c k1 = xPay m ρ c (rk c) j fullShare.right) (p2 : pay m ρ (peer c) k2 = xPay m ρ (peer c) (rk (peer (peer c))) j fullShare)
    {hsc : (sliceX off h : Memref sig (Dev.tc n : Thread nD τ).2.kind .vmem S256x512 .bf16).view.ref.isScScratch = false}
    {hsrc : (sliceX off h).view.WordExact} {hdst : (sliceX off h).view.WordExact}
    {hsem : DmaTarget.Typed .vmem (.dma s2) (.remote (Dev.tc n : Thread nD τ) (sliceX off h) (.dma s1) hsc)}
    {α : Type} {Q : α → sProp 𝕄} {k : PUnit → Prog (TpuEff nD τ sig (Elt F) Λ₀ .tc) α}
    (fn : Buf (Elt F) (locX (peer c))) (O : CellTallies nD τ sig Unit) (W : Waits sig Unit) :
    iprop(cellInv ER (sched m ρ) (K (c, k1)) (cell c k1) ∗ cellInv ER (sched m ρ) (K (peer c, k2)) (cell (peer c) k2)
        ∗ xPay m ρ c (rk c) j fullShare.right ∗ (locX (peer c) ↦[quarX (rk c) j]{fullShare} fn)
        ∗ owes (c : Thread nD τ) (O + tallyAt (cell (peer c) k2) () (amt k2)) W
        ∗ dutyTok ER (cell c k1) 0 () ∗ reached ER (cell c k1) 0
        ∗ dutyTok ER (cell (peer c) k2) 0 () ∗ reached ER (cell (peer c) k2) 0)
      ⊢ iprop(((cred (tallyAt (cell c k1) () (amt k1)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sliceX off h) (.remote (Dev.tc n : Thread nD τ) (sliceX off h) (.dma s1) hsc) (.dma s2) hsrc hdst hsem) k) Q) := by
  subst hn
  have e1 : cell c k1 = ((c : Thread nD τ), SemLoc.dma s1) := by rw [h1]
  have e2 : cell (peer c) k2 = ((peer c : Thread nD τ), SemLoc.dma s2) := by rw [h2]
  have hs : quarX (rk c) j = (sliceX off h).view.set := (sliceX_set ho).symm
  have r := Rounds.wp_send_pointsTo 𝒱₀ ER (sched m ρ) (c : Thread nD τ) none (c' := Dev.tc (peer c)) (Γ := PendingWaitsCtx.empty) (k := k) (Q := Q) (defs := defs₀ (F := F)) (κ₁ := K (c, k1)) (κ₂ := K (peer c, k2))
    (src := sliceX off h) (dst := (sliceX off h : Memref sig (Dev.tc (peer c) : Thread nD τ).2.kind .vmem S256x512 .bf16)) (sS := .dma s1) (sem := .dma s2) (hsrc := hsrc) (hdst := hdst) (hsem := hsem)
    (q := fullShare.right) (fs := tabX m ρ c) (r₁ := 0) (r₂ := 0) (d₁ := ()) (d₂ := ()) (fd := fn) (Es := Set.univ)
    (by rw [← e1, duties_cell]; exact Finset.mem_singleton_self _) (by rw [← e2, duties_cell]; exact Finset.mem_singleton_self _)
    () () Nx rfl (by rw [← e1, amount_cell]; exact a1) (by rw [← e2, amount_cell]; exact a2) O rfl (W := W)
    (by rw [← e1, payload_cell, p1]; exact Entails.of_eq (by rw [← hs]; rfl))
    (by
      rw [← e2, payload_cell, p2]
      refine Entails.of_eq ?_
      unfold xPay
      rw [peer_peer, tabX_peer, hs]
      exact pointsTo_congr (fun i hi => sent_X (peer c) (tabX m ρ c) fn i hi))
  rw [← hs, ← e1, ← e2] at r
  rw [a1, a2]
  exact r

/-- A wait on one of its own transfer cells, owing nothing: the cell's payload. -/
theorem wp_wait_cell (c : Dev nD) (k1 : Fin 11) (s1 : DmaSem sig) (h1 : SemLoc.dma s1 = csem k1)
    {sp sp' : Space} {s s' : Shape} {e e' : EltTy} {src : Memref sig (.tc : Proc τ).kind sp' s' e'} {dst : Memref sig (.tc : Proc τ).kind sp s e}
    {hsrc : src.view.WordExact} {hdst : dst.view.WordExact} (hN : dst.view.dmaCredit = amt k1)
    {α : Type} {Q : α → sProp 𝕄} {k : PUnit → Prog (TpuEff nD τ sig (Elt F) Λ₀ .tc) α} (W : Waits sig Unit) :
    iprop(cellInv ER (sched m ρ) (K (c, k1)) (cell c k1) ∗ cred (tallyAt (cell c k1) () (amt k1)) ∗ owes (c : Thread nD τ) 0 W
        ∗ atPos ER (cell c k1) 0 ∅ 0)
      ⊢ iprop((((∃ W', owes (c : Thread nD τ) 0 W') ∗ atPos ER (cell c k1) 1 ∅ 0 ∗ pay m ρ c k1)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s1 src dst hsrc hdst) k) Q) := by
  have e1 : cell c k1 = ((c : Thread nD τ), SemLoc.dma s1) := by rw [h1]
  have r := Rounds.wp_wait_rest_token 𝒱₀ ER (sched m ρ) (c : Thread nD τ) none (defs := defs₀ (F := F)) (k := k) (Q := Q) (κ := K (c, k1))
      (wpE_waitDma2_eq (src := src) (dst := dst) (sem := s1) (hsrc := hsrc) (hdst := hdst) 𝒱₀ (c : Thread nD τ) none Set.univ)
      (Set.mem_univ _) () (O := 0) (W := W) (R := 0) (m := 0) (T := ∅)
      (by rw [← e1, expect_cell, Nat.zero_add]; exact hN)
  rw [← e1, rest_cell, hN] at r
  iintro ⟨H1, H2, H3, H4⟩ Hk
  iapply r $$ [H1 H2 H3 H4]
  · isplitl [H1]; · iexact H1
    isplitl [H2]; · iexact H2
    isplitl [H3]; · iexact H3
    isplitr; · rw [MayWait_zero]; iempintro
    iexact H4
  iintro ⟨HO, Hat, -, Hp⟩
  iapply Hk
  isplitl [HO]; · iexists _; iexact HO
  isplitl [Hat]; · iexact Hat
  iexact Hp

end Cert.Exchange

end
-- ==== Proof.Body.lean ====
/-
# The body of the kernel, executed

One rule of `Steps` or of the library per effect of the kernel, in program order, from what a
device starts with to what it leaves: its result, both buffers of the exchange and its eleven
cells at zero.
-/
module

public import proofs.«01_k».proof.Proof.Steps

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- The kernel's pure part: from the device's rank as the program computes it, the table of
    destinations, its own tokens and the four quarters of the other device's. -/
def outOf (y : BitVec 32) (T : Vec F S2x8x128 .i32) (xo : Vec F S1x1024x512 .bf16)
    (q0 q1 q2 q3 : Vec F S1x256x512 .bf16) : FVec F S1024x512 .f32 :=
  let rows : IVec S1024x128 32 := iota .tc S1024x128 32 [0] iota_S1024x128_d0_w32
  let e := k0_pay5 (F := F) T
  let o := k0_pay6 (F := F) y T
  let z : FVec F S16x128 .f32 := constant S16x128 .f32 0x00000000#32
  let loc := k0_pay8 (F := F) y k0_pay3 k0_pay4 e o z
  let rem := k0_pay9 (F := F) y k0_pay3 k0_pay4 e o z
  let a := k0_pay17 (F := F) rows loc (k0_pay10 y k0_pay3 k0_pay4 rows e o z) (k0_pay11 y k0_pay3 k0_pay4 rows e o z)
    (k0_pay12 y k0_pay3 k0_pay4 rows e o z) (k0_pay13 y k0_pay3 k0_pay4 rows e o z) (k0_pay14 y k0_pay3 k0_pay4 rows e o z)
    (k0_pay15 y k0_pay3 k0_pay4 rows e o z) (k0_pay16 y k0_pay3 k0_pay4 e o z) xo
  k0_pay23 rows rem (k0_pay22 rows rem (k0_pay21 rows rem a (k0_pay18 q0) (k0_pay19 rows rem) (k0_pay20 rows rem) q1) q2) q3

/-- The rank word the program computes. -/
def rkWord (c : Dev nD) : BitVec 32 := Scalar.remsi (Scalar.divsi (Dev.word c) 4#32) 2#32

/-- The result of device `c`. -/
def outAt (c : Dev nD) : (cc0_stg2_0 : Ref sig .tc).ty.Contents (Elt F) :=
  outOf (rkWord c) (tabD m ρ c) (k0_pay2 (F := F) (xstg m ρ c)) (quarter m ρ c 0) (quarter m ρ c 1) (quarter m ρ c 2) (quarter m ρ c 3)

/-! ## What a device starts with and leaves -/

/-- Every cell's invariant, and that every cell is at round 0. -/
def records (K : Dev nD × Fin 11 → ℕ) : sProp 𝕄 :=
  iprop((bigSep Finset.univ fun ck : Dev nD × Fin 11 => cellInv ER (sched m ρ) (K ck) (cell ck.1 ck.2))
    ∗ bigSep Finset.univ fun ck : Dev nD × Fin 11 => reached ER (cell ck.1 ck.2) 0)

instance records_persistent (K : Dev nD × Fin 11 → ℕ) : BI.Persistent (records m ρ K) := by unfold records; infer_instance

theorem inv_at (K : Dev nD × Fin 11 → ℕ) (c : Dev nD) (k : Fin 11) : records m ρ K ⊢ cellInv ER (sched m ρ) (K (c, k)) (cell c k) := by
  have h : (bigSep Finset.univ fun ck : Dev nD × Fin 11 => (cellInv ER (sched m ρ) (K ck) (cell ck.1 ck.2) : sProp 𝕄))
      ⊢ cellInv ER (sched m ρ) (K (c, k)) (cell c k) := bigSep_elim (Finset.mem_univ (c, k))
  unfold records
  iintro ⟨H, -⟩
  iapply h
  iexact H

theorem reached_at (K : Dev nD × Fin 11 → ℕ) (c : Dev nD) (k : Fin 11) : records m ρ K ⊢ reached ER (cell c k) 0 := by
  have h : (bigSep Finset.univ fun ck : Dev nD × Fin 11 => (reached ER (cell ck.1 ck.2) 0 : sProp 𝕄))
      ⊢ reached ER (cell c k) 0 := bigSep_elim (Finset.mem_univ (c, k))
  unfold records
  iintro ⟨-, H⟩
  iapply h
  iexact H

/-- Whose cell number `k` device `c` pays: the other's if `k` is even, its own if odd. -/
def payee (c : Dev nD) (k : Fin 11) : Dev nD := if k.val % 2 = 0 then peer c else c

/-- The tokens a device pays with. -/
def payToks (c : Dev nD) : sProp 𝕄 := bigSep Finset.univ fun k : Fin 11 => dutyTok ER (cell (payee c k) k) 0 ()

def positions (c : Dev nD) : sProp 𝕄 := bigSep Finset.univ fun k : Fin 11 => atPos ER (cell c k) 0 ∅ 0

def ghost (K : Dev nD × Fin 11 → ℕ) (c : Dev nD) : sProp 𝕄 := iprop(records m ρ K ∗ positions c ∗ payToks c)

/-- The launch credit of a device: of its barrier and its five receive cells. -/
def credits (c : Dev nD) : sProp 𝕄 :=
  iprop(cred (tallyAt (cell c 0) () (amt 0)) ∗ cred (tallyAt (cell c 2) () (amt 2)) ∗ cred (tallyAt (cell c 4) () (amt 4))
    ∗ cred (tallyAt (cell c 6) () (amt 6)) ∗ cred (tallyAt (cell c 8) () (amt 8)) ∗ cred (tallyAt (cell c 10) () (amt 10)))

def scratches (c : Dev nD) : sProp 𝕄 :=
  iprop((∃ f : Buf (Elt F) (locX c), locX c ↦{fullShare} f) ∗ (∃ f : Buf (Elt F) (locD c), locD c ↦{fullShare} f))

def start (c : Dev nD) : sProp 𝕄 := iprop((∃ K, ghost m ρ K c) ∗ credits c ∗ levAts L lv)

def Φ₀ (c : Dev nD) : sProp 𝕄 := iprop(start m ρ c ∗ scratches c)
def Φ₁ (c : Dev nD) : sProp 𝕄 := iprop(scratches c ∗ bigSep Finset.univ fun k : Fin 11 => semVal (cell c k) 0)

theorem fin11 (Φ : Fin 11 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

/-! ## The pipeline's data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => dstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Payloads, read -/

theorem pay_0 (c : Dev nD) : pay (F := F) m ρ c 0 = barPay c := rfl
theorem pay_1 (c : Dev nD) : pay (F := F) m ρ c 1 = iprop(locD c ↦[slabD (rk c)]{fullShare} tabD m ρ c) := rfl
theorem pay_2 (c : Dev nD) : pay (F := F) m ρ c 2 = iprop(locD c ↦[slabD (rk (peer c))]{fullShare} tabD m ρ c) := rfl
theorem pay_3 (c : Dev nD) : pay (F := F) m ρ c 3 = iprop(locX c ↦[quarX (rk c) 0]{fullShare.right} tabX m ρ c) := rfl
theorem pay_4 (c : Dev nD) : pay (F := F) m ρ c 4 = iprop(locX c ↦[quarX (rk (peer c)) 0]{fullShare} tabX m ρ c) := rfl
theorem pay_5 (c : Dev nD) : pay (F := F) m ρ c 5 = iprop(locX c ↦[quarX (rk c) 1]{fullShare.right} tabX m ρ c) := rfl
theorem pay_6 (c : Dev nD) : pay (F := F) m ρ c 6 = iprop(locX c ↦[quarX (rk (peer c)) 1]{fullShare} tabX m ρ c) := rfl
theorem pay_7 (c : Dev nD) : pay (F := F) m ρ c 7 = iprop(locX c ↦[quarX (rk c) 2]{fullShare.right} tabX m ρ c) := rfl
theorem pay_8 (c : Dev nD) : pay (F := F) m ρ c 8 = iprop(locX c ↦[quarX (rk (peer c)) 2]{fullShare} tabX m ρ c) := rfl
theorem pay_9 (c : Dev nD) : pay (F := F) m ρ c 9 = iprop(locX c ↦[quarX (rk c) 3]{fullShare.right} tabX m ρ c) := rfl
theorem pay_10 (c : Dev nD) : pay (F := F) m ρ c 10 = iprop(locX c ↦[quarX (rk (peer c)) 3]{fullShare} tabX m ρ c) := rfl

/-! ## The barrier's cell, under the name the program gives it -/

theorem csem_bar : csem 0 = SemLoc.reg barS := rfl
theorem duties_bar (c : Dev nD) : (sched (F := F) m ρ).duties ((c : Thread nD τ), SemLoc.reg barS) 0 = {()} := by
  rw [← csem_bar, duties_cell]
theorem payload_bar (c : Dev nD) : (sched (F := F) m ρ).payload ((c : Thread nD τ), SemLoc.reg barS) 0 () = barPay c := by
  rw [← csem_bar, payload_cell, pay_0]
theorem expect_bar (c : Dev nD) : (sched (F := F) m ρ).expect ((c : Thread nD τ), SemLoc.reg barS) 0 = 1 := by
  rw [← csem_bar, expect_cell]; rfl
theorem rest_bar (c : Dev nD) :
    bigSep ((sched (F := F) m ρ).duties ((c : Thread nD τ), SemLoc.reg barS) 0 \ ∅) (fun d => (sched (F := F) m ρ).payload ((c : Thread nD τ), SemLoc.reg barS) 0 d)
      = barPay c := by
  rw [← csem_bar, rest_cell, pay_0]

/-! ## The buffers, cut and joined -/

theorem cut_D (c : Dev nD) (f : Buf (Elt F) (locD c)) :
    (locD c ↦{fullShare} f : sProp 𝕄) ⊣⊢ iprop((locD c ↦[slabD (rk c)]{fullShare} f) ∗ (locD c ↦[slabD (rk (peer c))]{fullShare} f)) := by
  have h := pointsTo_union (Ix := Unit) (Name := ℕ) (U := UU) (Lvl := ℕ) (ℓ := locD c) (q := fullShare) (f := f) (slabD_disjoint c)
  rw [slabD_union] at h
  exact h

theorem cut_X (c : Dev nD) (f : Buf (Elt F) (locX c)) :
    (locX c ↦{fullShare} f : sProp 𝕄) ⊣⊢ iprop((locX c ↦[slabX (rk c)]{fullShare} f) ∗ (locX c ↦[slabX (rk (peer c))]{fullShare} f)) := by
  have h := pointsTo_union (Ix := Unit) (Name := ℕ) (U := UU) (Lvl := ℕ) (ℓ := locX c) (q := fullShare) (f := f) (slabX_disjoint c)
  rw [slabX_union] at h
  exact h

theorem halves_X (c : Dev nD) (y : Fin 2) (f : Buf (Elt F) (locX c)) :
    (locX c ↦[slabX y]{fullShare} f : sProp 𝕄) ⊣⊢ iprop((locX c ↦[slabX y]{fullShare.left} f) ∗ (locX c ↦[slabX y]{fullShare.right} f)) :=
  pointsTo_share (PosShare.mem_left_op_right fullShare)

/-! ## Offsets -/

theorem rk_peer_val (c : Dev nD) : 1 - c.val / 4 % 2 = (rk (peer c)).val := by revert c; decide

theorem off1 (c : Dev nD) : k0_off1 c = ![(rk c).val, 0, 0] := k0_off1_eq c
theorem off2 (c : Dev nD) : k0_off2 c = ![(rk c).val, 0, 0] := k0_off2_eq c
theorem off3 (c : Dev nD) : k0_off3 c = ![(rk c).val, 0, 0] := k0_off3_eq c
theorem off4 (c : Dev nD) : k0_off4 c = ![(rk c).val, 256 * 0, 0] := k0_off4_eq c
theorem off5 (c : Dev nD) : k0_off5 c = ![(rk c).val, 256 * 1, 0] := k0_off5_eq c
theorem off6 (c : Dev nD) : k0_off6 c = ![(rk c).val, 256 * 2, 0] := k0_off6_eq c
theorem off7 (c : Dev nD) : k0_off7 c = ![(rk c).val, 256 * 3, 0] := k0_off7_eq c
theorem off8 (c : Dev nD) : k0_off8 c = ![(rk (peer c)).val, 256 * (0 : Fin 4).val, 0] := by rw [k0_off8_eq, rk_peer_val]; rfl
theorem off9 (c : Dev nD) : k0_off9 c = ![(rk (peer c)).val, 256 * (1 : Fin 4).val, 0] := by rw [k0_off9_eq, rk_peer_val]; rfl
theorem off10 (c : Dev nD) : k0_off10 c = ![(rk (peer c)).val, 256 * (2 : Fin 4).val, 0] := by rw [k0_off10_eq, rk_peer_val]; rfl
theorem off11 (c : Dev nD) : k0_off11 c = ![(rk (peer c)).val, 256 * (3 : Fin 4).val, 0] := by rw [k0_off11_eq, rk_peer_val]; rfl

/-! ## The body -/

section Body

variable (K : Dev nD × Fin 11 → ℕ)

/-- What the load of a slab, or of a quarter, of the tokens touches. -/
theorem touch_X (R : Finset S2x1024x512.Idx) : sX.view.setOn R ⊆ R := fun i hi => by
  obtain ⟨j, hj, rfl⟩ := Finset.mem_map.mp hi
  exact hj

theorem amt_1 : Nd = amt 1 := by simp [amt]
theorem amt_2 : Nd = amt 2 := by simp [amt]
theorem amt_far (k : Fin 11) (h : 2 < k.val) : Nx = amt k := by
  unfold amt
  rw [if_neg fun e => by rw [e] at h; exact absurd h (by decide),
    if_neg fun e => e.elim (fun e => by rw [e] at h; exact absurd h (by decide)) fun e => by rw [e] at h; exact absurd h (by decide)]

theorem wp_wait_D (c : Dev nD) (k1 : Fin 11) (s1 : DmaSem sig) (h1 : SemLoc.dma s1 = csem k1) (a1 : Nd = amt k1) {off : Fin 3 → ℕ} {h}
    {hsrc : (sliceD off h).view.WordExact} {hdst : (sliceD off h).view.WordExact}
    {α : Type} {Q : α → sProp 𝕄} {k : PUnit → Prog (TpuEff nD τ sig (Elt F) Λ₀ .tc) α} (W : Waits sig Unit) :
    iprop(cellInv ER (sched m ρ) (K (c, k1)) (cell c k1) ∗ cred (tallyAt (cell c k1) () (amt k1)) ∗ owes (c : Thread nD τ) 0 W
        ∗ atPos ER (cell c k1) 0 ∅ 0)
      ⊢ iprop((((∃ W', owes (c : Thread nD τ) 0 W') ∗ atPos ER (cell c k1) 1 ∅ 0 ∗ pay m ρ c k1)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s1 (sliceD off h) (sliceD off h) hsrc hdst) k) Q) :=
  wp_wait_cell (src := sliceD off h) (dst := sliceD off h) (hsrc := hsrc) (hdst := hdst) m ρ K c k1 s1 h1 a1 W

theorem wp_wait_X (c : Dev nD) (k1 : Fin 11) (s1 : DmaSem sig) (h1 : SemLoc.dma s1 = csem k1) (a1 : Nx = amt k1) {off : Fin 3 → ℕ} {h}
    {hsrc : (sliceX off h).view.WordExact} {hdst : (sliceX off h).view.WordExact}
    {α : Type} {Q : α → sProp 𝕄} {k : PUnit → Prog (TpuEff nD τ sig (Elt F) Λ₀ .tc) α} (W : Waits sig Unit) :
    iprop(cellInv ER (sched m ρ) (K (c, k1)) (cell c k1) ∗ cred (tallyAt (cell c k1) () (amt k1)) ∗ owes (c : Thread nD τ) 0 W
        ∗ atPos ER (cell c k1) 0 ∅ 0)
      ⊢ iprop((((∃ W', owes (c : Thread nD τ) 0 W') ∗ atPos ER (cell c k1) 1 ∅ 0 ∗ pay m ρ c k1)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s1 (sliceX off h) (sliceX off h) hsrc hdst) k) Q) :=
  wp_wait_cell (src := sliceX off h) (dst := sliceX off h) (hsrc := hsrc) (hdst := hdst) m ρ K c k1 s1 h1 a1 W

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

theorem read_x (f : (cc0_stg0_0 : Ref sig .tc).ty.Contents (Elt F)) :
    xM.view.readAt (Elt F) (Rect.unit (s := S1024x512) ![0, 0] S1024x512.size inb_S1024x512_S1024x512_0_0).toLoadRect f = f :=
  Memref.readAt_unit_zero (Elt F) cc0_stg0_0 hz2 _ f
theorem read_e (f : (cc0_stg1_0 : Ref sig .tc).ty.Contents (Elt F)) :
    eM.view.readAt (Elt F) (Rect.unit (s := S1024) ![0] S1024.size inb_S1024_S1024_0).toLoadRect f = f :=
  Memref.readAt_unit_zero (Elt F) cc0_stg1_0 hz1 _ f
theorem read_D (f : (cc0_scratch1 : Ref sig .tc).ty.Contents (Elt F)) :
    sD.view.readAt (Elt F) (Rect.unit (s := S2x8x128) ![0, 0, 0] S2x8x128.size inb_S2x8x128_S2x8x128_0_0_0).toLoadRect f = f :=
  Memref.readAt_unit_zero (Elt F) cc0_scratch1 hz3 _ f
theorem write_out (f w : (cc0_stg2_0 : Ref sig .tc).ty.Contents (Elt F)) :
    (oM.access (Rect.unit (s := S1024x512) ![0, 0] S1024x512.size inb_S1024x512_S1024x512_0_0) : View sig .tc _ _ _).write (Elt F) f w Finset.univ = w :=
  Memref.write_access_unit_zero_univ (Elt F) cc0_stg2_0 hz2 _ f w

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ credits c ∗ levAts L lv ∗ scratches c)
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (xstg m ρ c) ∗ stg c cc0_stg1_0 (dstg m ρ c)
    ∗ stg c cc0_stg2_0 (outAt m ρ c))

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _) cc0_scratch2) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  unfold bodyPre ghost positions payToks credits scratches
  rw [fin11, fin11]
  iintro ⟨⟨⟨⟨#HR, ⟨A0, A1, A2, A3, A4, A5, A6, A7, A8, A9, A10⟩, T0, T1, T2, T3, T4, T5, T6, T7, T8, T9, T10⟩,
    ⟨C0, C2, C4, C6, C8, C10⟩, #Hlev, ⟨%fX, HX⟩, ⟨%fD, HD⟩⟩, Ho, ⟨%d0, %g0, %hg0, Hx⟩, ⟨%d1, %g1, %hg1, He⟩, ⟨%d2, %g2, %hg2, Hout⟩⟩, Hk⟩
  have hx : g0 = xstg m ρ c := by rw [hg0]; unfold Dat.before; rw [if_pos (fetch0_0 t0_0)]; rfl
  have he : g1 = dstg m ρ c := by rw [hg1]; unfold Dat.before; rw [if_pos (fetch0_1 t0_0)]; rfl
  subst hx he
  unfold Dat.owesAt Pipeline.owesWithin
  icases Ho with ⟨%W, %hW, HO⟩
  rw [show (dats m ρ 0 c).owed t0_0.castSucc = O₀ c from rfl]
  simp only [dev1_eq c]
  -- its own blocks into its slabs of the two buffers
  iapply (wp_load 𝒱₀ (c : Thread nD τ) none Set.univ (m := eM) (Finset.subset_univ _)) $$ He; iintro He
  rw [read_e]
  iapply (wp_load 𝒱₀ (c : Thread nD τ) none Set.univ (m := sD) (Finset.subset_univ _)) $$ HD; iintro HD
  iapply (wp_store 𝒱₀ (c : Thread nD τ) none Set.univ (m := sD) (r := rectD (k0_off1 c) (k0_off1_inb c)) (Mk := Finset.univ) (Finset.subset_univ _)) $$ HD; iintro HD
  iapply (wp_load 𝒱₀ (c : Thread nD τ) none Set.univ (m := xM) (Finset.subset_univ _)) $$ Hx; iintro Hx
  rw [read_x]
  iapply (wp_load 𝒱₀ (c : Thread nD τ) none Set.univ (m := sX) (Finset.subset_univ _)) $$ HX; iintro HX
  iapply (wp_store 𝒱₀ (c : Thread nD τ) none Set.univ (m := sX) (r := rectX (k0_off2 c) (k0_off2_inb c)) (Mk := Finset.univ) (Finset.subset_univ _)) $$ HX; iintro HX
  -- cut: its own slabs hold the table's entries, the others are the other device's to fill
  ihave HD := (cut_D c _).1 $$ HD
  icases HD with ⟨HDo, HDn⟩
  ihave HDo := (Entails.of_eq (stored_D m ρ c (off1 c) fD)) $$ HDo
  ihave HX := (cut_X c _).1 $$ HX
  icases HX with ⟨HXo, HXn⟩
  ihave HXo := (Entails.of_eq (stored_X m ρ c (off2 c) fX)) $$ HXo
  -- the signal to the other device's barrier hands them over
  iapply (Rounds.wp_signal 𝒱₀ ER (sched m ρ) (c : Thread nD τ) none (dst := (peer c : Thread nD τ)) (κ := K (peer c, 0)) (sem := barS)
      (d := ()) (by rw [duties_bar]; exact Finset.mem_singleton_self _) ((amount_cell m ρ (peer c) 0 ()).trans (by decide)) () (owedOn c [2, 4, 6, 8, 10]) rfl)
    $$ [HO T0 HDn HXn]
  · isplitr; · iapply (inv_at m ρ K (peer c) 0); iexact HR
    isplitl [HO]; · iexact HO
    isplitl [T0]; · iexact T0
    isplitl
    · rw [payload_bar]
      unfold barPay
      rw [peer_peer]
      isplitl [HDn]
      · iexists _; iexact HDn
      · iexists _; iexact HXn
    iapply (reached_at m ρ K (peer c) 0); iexact HR
  iintro HO
  -- the wait on its own barrier: the other device's slabs at its rank
  iapply (Rounds.wp_wait_rest_token 𝒱₀ ER (sched m ρ) (c : Thread nD τ) none (κ := K (c, 0))
      (wpE_semWait_eq 𝒱₀ (c : Thread nD τ) none Set.univ) (Set.mem_univ _) () (O := owedOn c [2, 4, 6, 8, 10]) (W := W) (R := 0) (m := 0) (T := ∅)
      (by rw [expect_bar]; decide)) $$ [C0 HO A0]
  · isplitr; · iapply (inv_at m ρ K c 0); iexact HR
    isplitl [C0]; · iexact C0
    isplitl [HO]; · iexact HO
    isplitr; · iapply (mayWait_bar c); iexact Hlev
    iexact A0
  iintro ⟨HO, A0, -, Hp⟩
  ihave Hp := (Entails.of_eq (rest_bar m ρ c)) $$ Hp
  unfold barPay
  icases Hp with ⟨⟨%fDn, ND⟩, ⟨%fXn, NX⟩⟩
  -- the table of destinations leaves
  iapply (wp_send_D m ρ K c _ (dev2_eq c) (off3 c) _ _ rfl rfl fDn (owedOn c [4, 6, 8, 10]) _) $$ [HDo ND HO T1 T2]
  · isplitr; · iapply (inv_at m ρ K c 1); iexact HR
    isplitr; · iapply (inv_at m ρ K (peer c) 2); iexact HR
    isplitl [HDo]; · iexact HDo
    isplitl [ND]; · iexact ND
    isplitl [HO]; · iexact HO
    isplitl [T1]; · iexact T1
    isplitr; · iapply (reached_at m ρ K c 1); iexact HR
    isplitl [T2]; · iexact T2
    iapply (reached_at m ρ K (peer c) 2); iexact HR
  iintro ⟨C1, HO⟩
  -- its own tokens: one half share to read, the other in four quarters to send
  ihave HXo := (halves_X c (rk c) _).1 $$ HXo
  icases HXo with ⟨HXl, HXr⟩
  ihave HXr := (slab_split c (rk c) _ _).1 $$ HXr
  icases HXr with ⟨⟨⟨S0, S1⟩, S2⟩, S3⟩
  ihave NX := (slab_split (peer c) (rk c) _ _).1 $$ NX
  icases NX with ⟨⟨⟨N0, N1⟩, N2⟩, N3⟩
  -- quarter 0 of its tokens leaves
  iapply (wp_send_X m ρ K c _ (dev3_eq c) 0 (off4 c) _ _ 3 4 rfl rfl (amt_far 3 (by decide)).symm (amt_far 4 (by decide)).symm rfl rfl fXn (owedOn c [6, 8, 10]) _) $$ [S0 N0 HO T3 T4]
  · isplitr; · iapply (inv_at m ρ K c 3); iexact HR
    isplitr; · iapply (inv_at m ρ K (peer c) 4); iexact HR
    isplitl [S0]; · unfold xPay; iexact S0
    isplitl [N0]; · iexact N0
    isplitl [HO]; · iexact HO
    isplitl [T3]; · iexact T3
    isplitr; · iapply (reached_at m ρ K c 3); iexact HR
    isplitl [T4]; · iexact T4
    iapply (reached_at m ρ K (peer c) 4); iexact HR
  iintro ⟨C3, HO⟩
  -- quarter 1 of its tokens leaves
  iapply (wp_send_X m ρ K c _ (dev4_eq c) 1 (off5 c) _ _ 5 6 rfl rfl (amt_far 5 (by decide)).symm (amt_far 6 (by decide)).symm rfl rfl fXn (owedOn c [8, 10]) _) $$ [S1 N1 HO T5 T6]
  · isplitr; · iapply (inv_at m ρ K c 5); iexact HR
    isplitr; · iapply (inv_at m ρ K (peer c) 6); iexact HR
    isplitl [S1]; · unfold xPay; iexact S1
    isplitl [N1]; · iexact N1
    isplitl [HO]; · iexact HO
    isplitl [T5]; · iexact T5
    isplitr; · iapply (reached_at m ρ K c 5); iexact HR
    isplitl [T6]; · iexact T6
    iapply (reached_at m ρ K (peer c) 6); iexact HR
  iintro ⟨C5, HO⟩
  -- quarter 2 of its tokens leaves
  iapply (wp_send_X m ρ K c _ (dev5_eq c) 2 (off6 c) _ _ 7 8 rfl rfl (amt_far 7 (by decide)).symm (amt_far 8 (by decide)).symm rfl rfl fXn (owedOn c [10]) _) $$ [S2 N2 HO T7 T8]
  · isplitr; · iapply (inv_at m ρ K c 7); iexact HR
    isplitr; · iapply (inv_at m ρ K (peer c) 8); iexact HR
    isplitl [S2]; · unfold xPay; iexact S2
    isplitl [N2]; · iexact N2
    isplitl [HO]; · iexact HO
    isplitl [T7]; · iexact T7
    isplitr; · iapply (reached_at m ρ K c 7); iexact HR
    isplitl [T8]; · iexact T8
    iapply (reached_at m ρ K (peer c) 8); iexact HR
  iintro ⟨C7, HO⟩
  -- quarter 3 of its tokens leaves
  iapply (wp_send_X m ρ K c _ (dev6_eq c) 3 (off7 c) _ _ 9 10 rfl rfl (amt_far 9 (by decide)).symm (amt_far 10 (by decide)).symm rfl rfl fXn (owedOn c []) _) $$ [S3 N3 HO T9 T10]
  · isplitr; · iapply (inv_at m ρ K c 9); iexact HR
    isplitr; · iapply (inv_at m ρ K (peer c) 10); iexact HR
    isplitl [S3]; · unfold xPay; iexact S3
    isplitl [N3]; · iexact N3
    isplitl [HO]; · iexact HO
    isplitl [T9]; · iexact T9
    isplitr; · iapply (reached_at m ρ K c 9); iexact HR
    isplitl [T10]; · iexact T10
    iapply (reached_at m ρ K (peer c) 10); iexact HR
  iintro ⟨C9, HO⟩
  iapply (wp_wait_D m ρ K c 1 _ rfl amt_1 _) $$ [C1 HO A1]
  · isplitr; · iapply (inv_at m ρ K c 1); iexact HR
    isplitl [C1]; · iexact C1
    isplitl [HO]; · iexact HO
    iexact A1
  iintro ⟨⟨%W1, HO⟩, A1, P1⟩
  ihave P1 := (Entails.of_eq (pay_1 m ρ c)) $$ P1
  iapply (wp_wait_D m ρ K c 2 _ rfl amt_2 _) $$ [C2 HO A2]
  · isplitr; · iapply (inv_at m ρ K c 2); iexact HR
    isplitl [C2]; · iexact C2
    isplitl [HO]; · iexact HO
    iexact A2
  iintro ⟨⟨%W2, HO⟩, A2, P2⟩
  ihave P2 := (Entails.of_eq (pay_2 m ρ c)) $$ P2
  -- the table is whole
  ihave HD := (cut_D c (tabD m ρ c)).2 $$ [P1 P2]
  · isplitl [P1]
    · iexact P1
    · iexact P2
  iapply (wp_load 𝒱₀ (c : Thread nD τ) none Set.univ (m := sD) (Finset.subset_univ _)) $$ HD; iintro HD
  rw [read_D]
  iapply (wp_load 𝒱₀ (c : Thread nD τ) none Set.univ (m := sX) ((touch_X _).trans (rectX_set (h := k0_off2_inb c) (off2 c)).le)) $$ HXl; iintro HXl
  rw [load_own m ρ c (off2 c)]
  iapply (wp_wait_X m ρ K c 4 _ rfl (amt_far 4 (by decide)) _) $$ [C4 HO A4]
  · isplitr; · iapply (inv_at m ρ K c 4); iexact HR
    isplitl [C4]; · iexact C4
    isplitl [HO]; · iexact HO
    iexact A4
  iintro ⟨⟨%W4, HO⟩, A4, P4⟩
  ihave P4 := (Entails.of_eq (pay_4 m ρ c)) $$ P4
  iapply (wp_load 𝒱₀ (c : Thread nD τ) none Set.univ (m := sX) ((touch_X _).trans (rectQ_set (k := 0) (h := k0_off8_inb c) (off8 c)).le)) $$ P4; iintro P4
  rw [load_quarter m ρ c 0 (off8 c)]
  iapply (wp_wait_X m ρ K c 6 _ rfl (amt_far 6 (by decide)) _) $$ [C6 HO A6]
  · isplitr; · iapply (inv_at m ρ K c 6); iexact HR
    isplitl [C6]; · iexact C6
    isplitl [HO]; · iexact HO
    iexact A6
  iintro ⟨⟨%W6, HO⟩, A6, P6⟩
  ihave P6 := (Entails.of_eq (pay_6 m ρ c)) $$ P6
  iapply (wp_load 𝒱₀ (c : Thread nD τ) none Set.univ (m := sX) ((touch_X _).trans (rectQ_set (k := 1) (h := k0_off9_inb c) (off9 c)).le)) $$ P6; iintro P6
  rw [load_quarter m ρ c 1 (off9 c)]
  iapply (wp_wait_X m ρ K c 8 _ rfl (amt_far 8 (by decide)) _) $$ [C8 HO A8]
  · isplitr; · iapply (inv_at m ρ K c 8); iexact HR
    isplitl [C8]; · iexact C8
    isplitl [HO]; · iexact HO
    iexact A8
  iintro ⟨⟨%W8, HO⟩, A8, P8⟩
  ihave P8 := (Entails.of_eq (pay_8 m ρ c)) $$ P8
  iapply (wp_load 𝒱₀ (c : Thread nD τ) none Set.univ (m := sX) ((touch_X _).trans (rectQ_set (k := 2) (h := k0_off10_inb c) (off10 c)).le)) $$ P8; iintro P8
  rw [load_quarter m ρ c 2 (off10 c)]
  iapply (wp_wait_X m ρ K c 10 _ rfl (amt_far 10 (by decide)) _) $$ [C10 HO A10]
  · isplitr; · iapply (inv_at m ρ K c 10); iexact HR
    isplitl [C10]; · iexact C10
    isplitl [HO]; · iexact HO
    iexact A10
  iintro ⟨⟨%W10, HO⟩, A10, P10⟩
  ihave P10 := (Entails.of_eq (pay_10 m ρ c)) $$ P10
  iapply (wp_load 𝒱₀ (c : Thread nD τ) none Set.univ (m := sX) ((touch_X _).trans (rectQ_set (k := 3) (h := k0_off11_inb c) (off11 c)).le)) $$ P10; iintro P10
  rw [load_quarter m ρ c 3 (off11 c)]
  iapply (wp_load 𝒱₀ (c : Thread nD τ) none Set.univ (m := oM) (Finset.subset_univ _)) $$ Hout; iintro Hout
  iapply (wp_store 𝒱₀ (c : Thread nD τ) none Set.univ (m := oM) (r := Rect.unit (s := S1024x512) ![0, 0] S1024x512.size inb_S1024x512_S1024x512_0_0) (Mk := Finset.univ) (Finset.subset_univ _)) $$ Hout; iintro Hout
  ihave Hout := (Entails.of_eq (congrArg (fun f => iprop(((c : Thread nD τ).loc cc0_stg2_0) ↦{fullShare} f)) (write_out g2 _))) $$ Hout
  iapply (wp_wait_X m ρ K c 3 _ rfl (amt_far 3 (by decide)) _) $$ [C3 HO A3]
  · isplitr; · iapply (inv_at m ρ K c 3); iexact HR
    isplitl [C3]; · iexact C3
    isplitl [HO]; · iexact HO
    iexact A3
  iintro ⟨⟨%W3, HO⟩, A3, P3⟩
  ihave P3 := (Entails.of_eq (pay_3 m ρ c)) $$ P3
  iapply (wp_wait_X m ρ K c 5 _ rfl (amt_far 5 (by decide)) _) $$ [C5 HO A5]
  · isplitr; · iapply (inv_at m ρ K c 5); iexact HR
    isplitl [C5]; · iexact C5
    isplitl [HO]; · iexact HO
    iexact A5
  iintro ⟨⟨%W5, HO⟩, A5, P5⟩
  ihave P5 := (Entails.of_eq (pay_5 m ρ c)) $$ P5
  iapply (wp_wait_X m ρ K c 7 _ rfl (amt_far 7 (by decide)) _) $$ [C7 HO A7]
  · isplitr; · iapply (inv_at m ρ K c 7); iexact HR
    isplitl [C7]; · iexact C7
    isplitl [HO]; · iexact HO
    iexact A7
  iintro ⟨⟨%W7, HO⟩, A7, P7⟩
  ihave P7 := (Entails.of_eq (pay_7 m ρ c)) $$ P7
  iapply (wp_wait_X m ρ K c 9 _ rfl (amt_far 9 (by decide)) _) $$ [C9 HO A9]
  · isplitr; · iapply (inv_at m ρ K c 9); iexact HR
    isplitl [C9]; · iexact C9
    isplitl [HO]; · iexact HO
    iexact A9
  iintro ⟨⟨%W9, HO⟩, A9, P9⟩
  ihave P9 := (Entails.of_eq (pay_9 m ρ c)) $$ P9
  rw [wp_ret]
  imod (Rounds.cell_close ER (sched m ρ) (Set.mem_univ (K (c, 0))) (fun h => h) (R := 0 + 1) (duties_later m ρ (cell c 0))) $$ [A0] with A0
  · isplitr; · iapply (inv_at m ρ K c 0); iexact HR
    iexact A0
  imod (Rounds.cell_close ER (sched m ρ) (Set.mem_univ (K (c, 1))) (fun h => h) (R := 0 + 1) (duties_later m ρ (cell c 1))) $$ [A1] with A1
  · isplitr; · iapply (inv_at m ρ K c 1); iexact HR
    iexact A1
  imod (Rounds.cell_close ER (sched m ρ) (Set.mem_univ (K (c, 2))) (fun h => h) (R := 0 + 1) (duties_later m ρ (cell c 2))) $$ [A2] with A2
  · isplitr; · iapply (inv_at m ρ K c 2); iexact HR
    iexact A2
  imod (Rounds.cell_close ER (sched m ρ) (Set.mem_univ (K (c, 3))) (fun h => h) (R := 0 + 1) (duties_later m ρ (cell c 3))) $$ [A3] with A3
  · isplitr; · iapply (inv_at m ρ K c 3); iexact HR
    iexact A3
  imod (Rounds.cell_close ER (sched m ρ) (Set.mem_univ (K (c, 4))) (fun h => h) (R := 0 + 1) (duties_later m ρ (cell c 4))) $$ [A4] with A4
  · isplitr; · iapply (inv_at m ρ K c 4); iexact HR
    iexact A4
  imod (Rounds.cell_close ER (sched m ρ) (Set.mem_univ (K (c, 5))) (fun h => h) (R := 0 + 1) (duties_later m ρ (cell c 5))) $$ [A5] with A5
  · isplitr; · iapply (inv_at m ρ K c 5); iexact HR
    iexact A5
  imod (Rounds.cell_close ER (sched m ρ) (Set.mem_univ (K (c, 6))) (fun h => h) (R := 0 + 1) (duties_later m ρ (cell c 6))) $$ [A6] with A6
  · isplitr; · iapply (inv_at m ρ K c 6); iexact HR
    iexact A6
  imod (Rounds.cell_close ER (sched m ρ) (Set.mem_univ (K (c, 7))) (fun h => h) (R := 0 + 1) (duties_later m ρ (cell c 7))) $$ [A7] with A7
  · isplitr; · iapply (inv_at m ρ K c 7); iexact HR
    iexact A7
  imod (Rounds.cell_close ER (sched m ρ) (Set.mem_univ (K (c, 8))) (fun h => h) (R := 0 + 1) (duties_later m ρ (cell c 8))) $$ [A8] with A8
  · isplitr; · iapply (inv_at m ρ K c 8); iexact HR
    iexact A8
  imod (Rounds.cell_close ER (sched m ρ) (Set.mem_univ (K (c, 9))) (fun h => h) (R := 0 + 1) (duties_later m ρ (cell c 9))) $$ [A9] with A9
  · isplitr; · iapply (inv_at m ρ K c 9); iexact HR
    iexact A9
  imod (Rounds.cell_close ER (sched m ρ) (Set.mem_univ (K (c, 10))) (fun h => h) (R := 0 + 1) (duties_later m ρ (cell c 10))) $$ [A10] with A10
  · isplitr; · iapply (inv_at m ρ K c 10); iexact HR
    iexact A10
  imodintro
  -- the buffers whole again
  ihave HXr := (slab_split c (rk c) fullShare.right (tabX m ρ c)).2 $$ [P3 P5 P7 P9]
  · isplitl [P3 P5 P7]
    · isplitl [P3 P5]
      · isplitl [P3]
        · iexact P3
        · iexact P5
      · iexact P7
    · iexact P9
  ihave HXo := (halves_X c (rk c) (tabX m ρ c)).2 $$ [HXl HXr]
  · isplitl [HXl]
    · iexact HXl
    · iexact HXr
  ihave HXn := (slab_split c (rk (peer c)) fullShare (tabX m ρ c)).2 $$ [P4 P6 P8 P10]
  · isplitl [P4 P6 P8]
    · isplitl [P4 P6]
      · isplitl [P4]
        · iexact P4
        · iexact P6
      · iexact P8
    · iexact P10
  ihave HX := (cut_X c (tabX m ρ c)).2 $$ [HXo HXn]
  · isplitl [HXo]
    · iexact HXo
    · iexact HXn
  iapply Hk
  unfold bodyPost Φ₁ scratches Dat.owesAt Pipeline.owesWithin
  rw [show (dats m ρ 0 c).owed t0_0.succ = 0 from rfl, fin11]
  isplitl [HX HD A0 A1 A2 A3 A4 A5 A6 A7 A8 A9 A10]
  · isplitl [HX HD]
    · isplitl [HX]
      · iexists _; iexact HX
      · iexists _; iexact HD
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexact A10
  isplitl [HO]
  · iexists W9
    isplitr; · ipureintro; exact fun _ _ => Or.inl trivial
    iexact HO
  isplitl [Hx]; · iexists _; isplitr; · ipureintro; rfl
                  iexact Hx
  isplitl [He]; · iexists _; isplitr; · ipureintro; rfl
                  iexact He
  iexists _; isplitr; · ipureintro; rfl
  iexact Hout

def bodyPre' (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _)
      (Memref.whole cc0_scratch0) (Memref.isWhole_whole _) (Memref.whole cc0_scratch1) (Memref.isWhole_whole _) cc0_scratch2) (fun _ => bodyPost m ρ c)
  unfold bodyPre' Φ₀ start
  iintro ⟨⟨⟨⟨%K, Hg⟩, Hc, Hl⟩, Hscr⟩, Ho, Hx, He, Hout⟩
  iapply (sound_body m ρ K c fun _ => bodyPost m ρ c)
  unfold bodyPre
  isplitr []
  · isplitl [Hg Hc Hl Hscr]
    · isplitl [Hg]; · iexact Hg
      isplitl [Hc]; · iexact Hc
      isplitl [Hl]; · iexact Hl
      iexact Hscr
    isplitl [Ho]; · iexact Ho
    isplitl [Hx]; · iexact Hx
    isplitl [He]; · iexact He
    iexact Hout
  · iintro H; iexact H

end Body

end Cert.Exchange

end
-- ==== Proof.Launch.lean ====
/-
# The launch and the run

What the launch deals the devices: the cells' invariants and records, each device's positions, the
tokens exchanged between the two devices of a pair, the credit of what the other owes. Then the
run: every execution terminates with the arrays at the contents named.
-/
module

public import proofs.«01_k».proof.Proof.Body
public import Idealize.ShloMosaic.Lib.Pipeline.CollectiveSegs

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores, as the launch indexes them. -/
abbrev osem : Fin 10 → SemLoc sig := fun j => .dma (dmaS j)

theorem ownSemFacts : Pipeline.OwnSemFacts cfg0.spec osem := by decide

theorem share_eq (c : Dev nD) (w : Fin cfg0.W) : (dats m ρ 0 c).share w = fullShare := by unfold Dat.share; split <;> rfl

abbrev cellAt (ck : Dev nD × Fin 11) : GSem nD τ sig := cell ck.1 ck.2
theorem cellAt_injective : Function.Injective cellAt := fun a b h => Prod.ext (cell_inj h).1 (cell_inj h).2
def allCells : Finset (GSem nD τ sig) := Finset.univ.map ⟨cellAt, cellAt_injective⟩

abbrev tokOf (ck : Dev nD × Fin 11) : GSem nD τ sig × ℕ × Unit := (cellAt ck, 0, ())
theorem tokOf_injective : Function.Injective tokOf := fun a b h => cellAt_injective (congrArg Prod.fst h)
def allToks : Finset (GSem nD τ sig × ℕ × Unit) := Finset.univ.map ⟨tokOf, tokOf_injective⟩

def u₀ : UU :=
  (initOf (Pipeline.cells cfgs cellOf_inj) (Pipeline.launchToks cfgs cellOf_inj), initOf allCells allToks)

/-- The tokens of a device's own cells. -/
def toks (c : Dev nD) : sProp 𝕄 := bigSep Finset.univ fun k : Fin 11 => dutyTok ER (cell c k) 0 ()

/-- What the launch deals device `c`, -/
def G (c : Dev nD) : sProp 𝕄 :=
  iprop((bigSep Finset.univ fun k : Fin 11 => roundState ER (sched m ρ) (cell c k) 0)
    ∗ (bigSep Finset.univ fun k : Fin 11 => iprop(atPos ER (cell c k) 0 ∅ 0 ∗ reached ER (cell c k) 0)) ∗ toks c)

/-- and what the devices make of it together. -/
def G' (c : Dev nD) : sProp 𝕄 := iprop(∃ K, ghost m ρ K c)

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 11 => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

theorem ownSems0_eq (c : Dev nD) : (Pipeline.ownSems0 (Ix := Unit) (Name := ℕ) (U := UU) (Lvl := ℕ) (Val := Elt F) (τ := τ) osem c : sProp 𝕄)
    = iprop(semVal (cell c 1) 0 ∗ semVal (cell c 2) 0 ∗ semVal (cell c 3) 0 ∗ semVal (cell c 4) 0 ∗ semVal (cell c 5) 0
      ∗ semVal (cell c 6) 0 ∗ semVal (cell c 7) 0 ∗ semVal (cell c 8) 0 ∗ semVal (cell c 9) 0 ∗ semVal (cell c 10) 0) := by
  rw [Pipeline.ownSems0_eq_of_list c osem [0, 1, 2, 3, 4, 5, 6, 7, 8, 9] (by decide) (by decide)]; rfl
theorem unscopedSems0_eq (c : Dev nD) : (unscopedSems0 c : sProp 𝕄) = semVal (cell c 0) 0 := by
  unfold unscopedSems0; rw [bigSep_eq_bigSepL_of_eq [SemLoc.reg barS] (by decide) (by decide)]; rfl

theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 11 => semVal (cell c k) 0 : sProp 𝕄) := by
  rw [ownSems0_eq, unscopedSems0_eq, fin11]

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (cell c k)))
          ∗ (bigSep Finset.univ fun k => iprop(atPos ER (cell c k) 0 ∅ 0 ∗ reached ER (cell c k) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 11 => semVal (cell c k) 0) ∗ bigSep Finset.univ fun k : Fin 11 => roundState ER (sched m ρ) (cell c k) 0)
      ⊢ (|={Set.univ}=> bigSep Finset.univ fun k => iprop(∃ κ : ℕ, cellInv ER (sched m ρ) κ (cell c k)) : sProp 𝕄) from by
        rw [← bigSep_sep']
        exact (bigSep_mono fun k _ => (Rounds.body_intro ER (sched m ρ) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens, exchanged -/

/-- Who pays a cell, as a rearrangement of the cells. -/
def paying : Dev nD × Fin 11 ≃ Dev nD × Fin 11 where
  toFun ck := (payee ck.1 ck.2, ck.2)
  invFun ck := (payee ck.1 ck.2, ck.2)
  left_inv ck := by
    have h (c : Dev nD) (k : Fin 11) : payee (payee c k) k = c := by unfold payee; split <;> simp [peer_peer]
    exact Prod.ext (h ck.1 ck.2) rfl
  right_inv ck := by
    have h (c : Dev nD) (k : Fin 11) : payee (payee c k) k = c := by unfold payee; split <;> simp [peer_peer]
    exact Prod.ext (h ck.1 ck.2) rfl

theorem toks_exchanged : (bigSep Finset.univ fun c : Dev nD => (toks c : sProp 𝕄)) = bigSep Finset.univ fun c : Dev nD => payToks c := by
  unfold toks payToks
  rw [← bigSep_univ_prod (fun ck : Dev nD × Fin 11 => (dutyTok ER (cell ck.1 ck.2) 0 () : sProp 𝕄)),
    ← bigSep_univ_prod (fun ck : Dev nD × Fin 11 => (dutyTok ER (cell (payee ck.1 ck.2) ck.2) 0 () : sProp 𝕄)),
    bigSep_univ_equiv paying (fun ck : Dev nD × Fin 11 => (dutyTok ER (cell ck.1 ck.2) 0 () : sProp 𝕄))]
  rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 11 → ℕ) (c : Dev nD) : iprop(records m ρ K ∗ (positions c ∗ payToks c)) ⊢ G' m ρ c := by
  unfold G' ghost
  iintro H
  iexists K
  iexact H

theorem regroup :
    (bigSep Finset.univ fun c : Dev nD => iprop((bigSep Finset.univ fun k => iprop(∃ κ : ℕ, cellInv ER (sched m ρ) κ (cell c k)))
          ∗ (bigSep Finset.univ fun k => iprop(atPos ER (cell c k) 0 ∅ 0 ∗ reached ER (cell c k) 0)) ∗ toks c) : sProp 𝕄)
      ⊢ bigSep Finset.univ (G' m ρ) := by
  rw [bigSep_sep', bigSep_sep', ← bigSep_univ_prod (fun ck : Dev nD × Fin 11 => iprop(∃ κ : ℕ, cellInv ER (sched m ρ) κ (cell ck.1 ck.2))),
    bigSep_congr (s := Finset.univ) (fun (c : Dev nD) _ => bigSep_sep' Finset.univ (fun k : Fin 11 => (atPos ER (cell c k) 0 ∅ 0 : sProp 𝕄)) (fun k => reached ER (cell c k) 0)),
    bigSep_sep', ← bigSep_univ_prod (fun ck : Dev nD × Fin 11 => (reached ER (cell ck.1 ck.2) 0 : sProp 𝕄)), toks_exchanged]
  iintro ⟨HI, ⟨Hat, #HR⟩, Htok⟩
  ihave HK := (BI.bigSep_exists_pi Finset.univ (fun (ck : Dev nD × Fin 11) (κ : ℕ) => (cellInv ER (sched m ρ) κ (cell ck.1 ck.2) : sProp 𝕄))) $$ HI
  icases HK with ⟨%K, #HI⟩
  iapply (with_persistent (R := records m ρ K) fun c _ => ghost_intro m ρ K c)
  isplitr
  · unfold records; isplitl; · iexact HI
    iexact HR
  · rw [bigSep_sep']
    isplitl [Hat]; · unfold positions; iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem launch_cell (c : Dev nD) (k : Fin 11) (hk : k ∈ ([0, 2, 4, 6, 8, 10] : List (Fin 11))) :
    tallyOn (cell c k) (launchCredit (Pipeline.owing O₀) 0 (cell c k)) = (tallyAt (cell c k) () (amt k) : CellTallies nD τ sig Unit) := by
  unfold tallyAt; refine congrArg _ (Finsupp.ext fun u => ?_); cases u
  rw [Pipeline.launchCredit_owing, Finsupp.single_eq_same, Finset.sum_congr rfl fun d _ => owedOn_apply d c _ (by decide) k,
    Finset.sum_congr rfl fun d _ => (if_congr (and_iff_left hk) rfl rfl : _ = if d = peer c then amt k else 0),
    Finset.sum_ite_eq' Finset.univ (peer c) fun _ => amt k, if_pos (Finset.mem_univ _)]

theorem creds (c : Dev nD) : (Pipeline.launchCred O₀ c : sProp 𝕄) ⊢ credits c := by
  have e : (credits c : sProp 𝕄) = bigSep (Finset.univ.filter fun k : Fin 11 => k ∈ ([0, 2, 4, 6, 8, 10] : List (Fin 11)))
      fun k => cred (tallyAt (cell c k) () (amt k)) := by
    rw [bigSep_eq_bigSepL_of_eq [0, 2, 4, 6, 8, 10] (by decide) (by decide)]; rfl
  have hi : Function.Injective csem := fun a b h => Option.some.inj (by rw [← numOf_csem a, ← numOf_csem b, h])
  have e' := bigSep_map (M := 𝕄) (s := Finset.univ.filter fun k : Fin 11 => k ∈ ([0, 2, 4, 6, 8, 10] : List (Fin 11))) ⟨csem, hi⟩
    (Φ := fun sm : SemLoc sig => cred (tallyOn ((c : Thread nD τ), sm) (launchCredit (Pipeline.owing O₀) 0 ((c : Thread nD τ), sm))))
  rw [e]
  unfold Pipeline.launchCred
  refine (bigSep_subset (Finset.subset_univ _)).trans ((Entails.of_eq e').trans ?_)
  refine Entails.of_eq (bigSep_congr fun k hk => ?_)
  exact congrArg cred (launch_cell c k (Finset.mem_filter.mp hk).2)

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratches
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratches
  rw [← sems0_eq]
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The arrays of a device after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters, for any float values: every weakly fair execution of the
    program on all sixteen devices terminates, with the arrays at the contents named and every
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = (s₀ m ρ).mem (win0_0.arr.view.loc (c : Thread nD τ)) :=
  (dats (F := F) m ρ 0 c).arrAt_in (0 : Fin 3) rfl _
theorem finalA_d (c : Dev nD) : finalA m ρ c (1 : Fin 3) = (s₀ m ρ).mem (win0_1.arr.view.loc (c : Thread nD τ)) :=
  (dats (F := F) m ρ 0 c).arrAt_in (1 : Fin 3) rfl _

end Cert.Exchange

end
-- ==== Proof.Frames.lean ====
/-
# The frames

Each program runs, leaves its arguments as they were and every counter at zero. The kernel and its
ideal form have the same text: the run of `Launch`, for any float values, serves both.
-/
module

public import proofs.«01_k».proof.Proof.Launch
public import proofs.«01_k».proof.Proof.Gen.Kernel
public import proofs.«01_k».proof.Proof.Gen.ReferenceIdeal.Run

@[expose] public section

set_option maxRecDepth 16384

noncomputable section

namespace Cert.Exchange

open Idealize.ShloMosaic Idealize.SL.Sem

theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (finalA_x m ρ c), (h.1 c (1 : Fin 3)).trans (finalA_d m ρ c)⟩, h.2⟩)
    (run_main m ρ)

/-- The two programs' kernel tables are one: the same body at the one label. -/
theorem tables_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun ℓ => funext fun p => ?_)
  match ℓ, p with
  | 0, (t, s) => rfl
  | ⟨_ + 1, h⟩, _ => exact absurd h (Nat.not_lt.2 (Nat.le_add_left _ _))

theorem frame_kernel : Cert.quiescent_Kernel := fun m ρ _ => by
  have r := frame_any (F := Bits) m ρ
  unfold Cert.KernelIdeal.defs at r
  rw [← tables_eq] at r
  exact r

theorem frame_ideal : Cert.quiescent_KernelIdeal := fun m ρ _ => frame_any (F := Ideal) m ρ

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Exchange

end
-- ==== Proof.Ranks.lean ====
/-
# Rows, ranks and the stable order

Facts about a list of destination words, with no program in sight. The rank of a row is the number
of earlier rows with the same destination. When the destinations are two words that occur equally
often, the stable order by destination puts the row of destination `y` and rank `n` at place
`y * T + n`.
-/
module

public import Idealize.ShloMosaic.Lib.PlanTiles.StableSort
public import Idealize.ShloMosaic.Lib.Routing.Count

@[expose] public section

noncomputable section

namespace Cert.Exchange

open Idealize.ShloMosaic Idealize.ShloMosaic.PlanTiles

/-! ## Counts -/

/-- Among the first `N` numbers, one with the property has exactly `n` with the property below it,
    if more than `n` have the property. -/
theorem exists_rank {p : ℕ → Prop} [DecidablePred p] {N n : ℕ} (h : n < Nat.count p N) :
    ∃ r, r < N ∧ p r ∧ Nat.count p r = n := by
  induction N with
  | zero => simp at h
  | succ N ih =>
    by_cases hN : n < Nat.count p N
    · obtain ⟨r, hr, hp, hc⟩ := ih hN
      exact ⟨r, Nat.lt_succ_of_lt hr, hp, hc⟩
    · rw [Nat.count_succ] at h
      by_cases hp : p N
      · rw [if_pos hp] at h
        exact ⟨N, Nat.lt_succ_self N, hp, by omega⟩
      · rw [if_neg hp] at h
        omega

/-- That number is the only one. -/
theorem rank_unique {p : ℕ → Prop} [DecidablePred p] {a b : ℕ} (ha : p a) (hb : p b)
    (h : Nat.count p a = Nat.count p b) : a = b := Nat.count_injective ha hb h

theorem count_eq_sum (p : ℕ → Prop) [DecidablePred p] (N : ℕ) :
    Nat.count p N = ∑ k ∈ Finset.range N, if p k then 1 else 0 := by
  rw [Nat.count_eq_card_filter_range, Finset.card_filter]

theorem count_eq_sum_fin (p : ℕ → Prop) [DecidablePred p] (N : ℕ) :
    Nat.count p N = ∑ k : Fin N, if p k.val then 1 else 0 := by
  rw [count_eq_sum, Finset.sum_range fun k => if p k then 1 else 0]

/-- A count over rows of `B`: the rows before, counted whole, then a part of the row. -/
theorem count_rows (p : ℕ → Prop) [DecidablePred p] (B i j : ℕ) :
    Nat.count p (B * i + j) = (∑ k ∈ Finset.range i, Nat.count (fun l => p (B * k + l)) B)
      + Nat.count (fun l => p (B * i + l)) j := by
  rw [Nat.count_add]
  congr 1
  induction i with
  | zero => simp
  | succ i ih => rw [Nat.mul_succ, Nat.count_add, ih, Finset.sum_range_succ]

/-- If two words that differ fill the list between them, no other word occurs. -/
theorem two_words {w : ℕ → BitVec 32} {N a b : ℕ} (ha : Nat.count (fun r => w r = 0#32) N = a)
    (hb : Nat.count (fun r => w r = 1#32) N = b) (hN : a + b = N) {r : ℕ} (hr : r < N) :
    w r = 0#32 ∨ w r = 1#32 := by
  rw [Nat.count_eq_card_filter_range] at ha hb
  have hd : Disjoint ((Finset.range N).filter fun r => w r = 0#32) ((Finset.range N).filter fun r => w r = 1#32) := by
    rw [Finset.disjoint_filter]
    intro x _ h0 h1
    rw [h0] at h1
    exact absurd h1 (by decide)
  have hu : ((Finset.range N).filter fun r => w r = 0#32) ∪ ((Finset.range N).filter fun r => w r = 1#32)
      = Finset.range N := by
    refine Finset.eq_of_subset_of_card_le (Finset.union_subset (Finset.filter_subset _ _) (Finset.filter_subset _ _)) ?_
    rw [Finset.card_union_of_disjoint hd, ha, hb, hN, Finset.card_range]
  have hm : r ∈ Finset.range N := Finset.mem_range.mpr hr
  rw [← hu, Finset.mem_union, Finset.mem_filter, Finset.mem_filter] at hm
  exact hm.imp (·.2) (·.2)

/-! ## The stable order -/

theorem place_div {T : ℕ} (k : Fin (2 * T)) : k.val / T < 2 :=
  Nat.div_lt_of_lt_mul (lt_of_lt_of_eq k.isLt (Nat.mul_comm 2 T))

/-- The destinations are the words 0 and 1, each occurring `T` times among the first `2 * T`. -/
structure Balanced (w : ℕ → BitVec 32) (T : ℕ) : Prop where
  zeros : Nat.count (fun r => w r = 0#32) (2 * T) = T
  ones : Nat.count (fun r => w r = 1#32) (2 * T) = T

namespace Balanced

variable {w : ℕ → BitVec 32} {T : ℕ} (h : Balanced w T)
include h

theorem word {r : ℕ} (hr : r < 2 * T) : w r = 0#32 ∨ w r = 1#32 := two_words h.zeros h.ones (by omega) hr

/-- The row of destination `y` and rank `n`. -/
theorem exists_row {y n : ℕ} (hy : y < 2) (hn : n < T) :
    ∃ r, r < 2 * T ∧ w r = BitVec.ofNat 32 y ∧ Nat.count (fun s => w s = BitVec.ofNat 32 y) r = n := by
  refine exists_rank ?_
  rcases (by omega : y = 0 ∨ y = 1) with rfl | rfl
  · exact lt_of_lt_of_eq hn h.zeros.symm
  · exact lt_of_lt_of_eq hn h.ones.symm

/-- The row at place `k` of the order. -/
def row (k : Fin (2 * T)) : Fin (2 * T) :=
  ⟨Classical.choose (h.exists_row (y := k.val / T) (n := k.val % T)
      (place_div k) (Nat.mod_lt _ (by have := k.isLt; omega))),
    (Classical.choose_spec (h.exists_row (y := k.val / T) (n := k.val % T)
      (place_div k) (Nat.mod_lt _ (by have := k.isLt; omega)))).1⟩

theorem row_word (k : Fin (2 * T)) : w (h.row k).val = BitVec.ofNat 32 (k.val / T) :=
  (Classical.choose_spec (h.exists_row (y := k.val / T) (n := k.val % T)
      (place_div k) (Nat.mod_lt _ (by have := k.isLt; omega)))).2.1

theorem row_rank (k : Fin (2 * T)) :
    Nat.count (fun s => w s = BitVec.ofNat 32 (k.val / T)) (h.row k).val = k.val % T :=
  (Classical.choose_spec (h.exists_row (y := k.val / T) (n := k.val % T)
      (place_div k) (Nat.mod_lt _ (by have := k.isLt; omega)))).2.2

omit h in
/-- Zero goes before one: the greater number first. -/
def first (w : ℕ → BitVec 32) (r : ℕ) : ℕ := if w r = 0#32 then 1 else 0

/-- Along the places the rows ascend: by destination, then by position. -/
theorem row_lex (i j : Fin (2 * T)) (hij : i < j) :
    Lex (fun a : Fin (2 * T) => first w a.val) (· < ·) (h.row i) (h.row j) := by
  have hT : 0 < T := by have := i.isLt; omega
  have hi : i.val / T < 2 := place_div i
  have hj : j.val / T < 2 := place_div j
  have hle : i.val / T ≤ j.val / T := Nat.div_le_div_right (le_of_lt hij)
  have wi := h.row_word i
  have wj := h.row_word j
  rcases Nat.lt_or_eq_of_le hle with hlt | heq
  · left
    have hi0 : i.val / T = 0 := by
      generalize i.val / T = a at *
      omega
    have hj1 : j.val / T = 1 := by
      generalize j.val / T = b at *
      omega
    rw [hi0] at wi
    rw [hj1] at wj
    simp only [first, wi, wj]
    decide
  · right
    refine ⟨by simp only [first, wi, wj, heq], ?_⟩
    have ri := h.row_rank i
    have rj := h.row_rank j
    rw [heq] at ri
    have hmod : i.val % T < j.val % T := by
      have e1 := Nat.div_add_mod i.val T
      have e2 := Nat.div_add_mod j.val T
      rw [heq] at e1
      have : i.val < j.val := hij
      omega
    rw [← ri, ← rj] at hmod
    by_contra hge
    exact absurd (Nat.count_monotone _ (not_lt.mp hge)) (not_le.mpr hmod)

theorem row_injective : Function.Injective h.row := by
  intro i j e
  by_contra hne
  rcases lt_or_gt_of_ne hne with hlt | hgt
  · rcases h.row_lex i j hlt with h1 | ⟨_, h2⟩
    · rw [e] at h1; exact lt_irrefl _ h1
    · rw [e] at h2; exact lt_irrefl _ h2
  · rcases h.row_lex j i hgt with h1 | ⟨_, h2⟩
    · rw [e] at h1; exact lt_irrefl _ h1
    · rw [e] at h2; exact lt_irrefl _ h2

/-- The stable sort of the positions by destination puts `row k` at place `k`. -/
theorem sortedFrom_row (k : Fin (2 * T)) :
    sortedFrom (fun a b : Fin (2 * T) => decide (first w b.val < first w a.val)) k = h.row k := by
  have h1 : (sortPositions (2 * T) fun a b => decide (first w b.val < first w a.val)).Pairwise
      (Lex (fun a : Fin (2 * T) => first w a.val) (· < ·)) :=
    pairwise_stableSort_lex (fun a : Fin (2 * T) => first w a.val) (· < ·) (List.finRange (2 * T))
      (List.pairwise_lt_finRange (2 * T))
  have h2 : (List.ofFn h.row).Pairwise (Lex (fun a : Fin (2 * T) => first w a.val) (· < ·)) :=
    List.pairwise_ofFn.mpr fun i j hij => h.row_lex i j hij
  have hperm : (sortPositions (2 * T) fun a b => decide (first w b.val < first w a.val)).Perm (List.ofFn h.row) := by
    refine (perm_sortPositions (2 * T) _).trans ?_
    refine (List.perm_ext_iff_of_nodup (List.nodup_finRange _) (List.nodup_ofFn.mpr h.row_injective)).mpr fun a => ?_
    have hs : ∃ i, h.row i = a := Finite.injective_iff_surjective.mp h.row_injective a
    simpa [List.mem_ofFn] using hs
  have : Std.Antisymm (Lex (fun a : Fin (2 * T) => first w a.val) (· < ·)) := ⟨fun a b h₁ h₂ => by
    rcases h₁ with h₁ | ⟨h₁, h₁'⟩ <;> rcases h₂ with h₂ | ⟨h₂, h₂'⟩
    · exact absurd h₁ (lt_asymm h₂)
    · rw [h₂] at h₁; exact absurd h₁ (lt_irrefl _)
    · rw [h₁] at h₂; exact absurd h₂ (lt_irrefl _)
    · exact absurd h₁' (lt_asymm h₂')⟩
  have e := hperm.eq_of_pairwise' h1 h2
  unfold sortedFrom
  rw [List.get_of_eq e]
  simp

/-- The comparison of two destinations as signed words is the comparison of `first`. -/
theorem slt_first {a b : ℕ} (ha : a < 2 * T) (hb : b < 2 * T) :
    (IntOp.cmpi .slt (w a) (w b) == 1#1) = decide (first w b < first w a) := by
  rcases h.word ha with ea | ea <;> rcases h.word hb with eb | eb <;> simp only [first, ea, eb] <;> decide

end Balanced

end Cert.Exchange

end
-- ==== Proof.Table.lean ====
/-
# The position table

What a device computes from the two devices' destinations: for each of the 2048 rows, the number of
earlier rows with its own destination where the row is for this device, and a number past every
output row where it is not.
-/
module

public import proofs.«01_k».proof.Proof.Body
public import proofs.«01_k».proof.Proof.Ranks
public import Idealize.ShloMosaic.Lib.Pointwise
public import Idealize.ShloMosaic.Lib.StableHlo.Predicate

@[expose] public section

set_option maxRecDepth 16384

noncomputable section

namespace Cert.Exchange

open Cert.KernelIdeal Cert.KernelIdeal.Gen
open Idealize.ShloMosaic Idealize.ShloMosaic.Pointwise
open Idealize.ShloMosaic.StableHlo.Predicate (toInt_ofNat_small sle_ofNat_iff slt_ofNat_iff cmpi_eq_iff)

/-! ## Whole numbers as extended reals -/

/-- A natural number as an extended real. -/
def nat (n : ℕ) : EReal := ((n : ℝ) : EReal)

theorem nat_zero : nat 0 = 0 := by simp [nat]
theorem nat_one : nat 1 = 1 := by simp [nat]
theorem nat_add (a b : ℕ) : nat (a + b) = nat a + nat b := by
  simp only [nat, Nat.cast_add, EReal.coe_add]
theorem nat_mul (a b : ℕ) : nat (a * b) = nat a * nat b := by
  simp only [nat, Nat.cast_mul, EReal.coe_mul]
theorem nat_add_sub (a b : ℕ) : nat (a + b) - nat b = nat a := by
  simp only [nat, ← EReal.coe_sub, Nat.cast_add, add_sub_cancel_right]
theorem nat_sum {ι : Type} (s : Finset ι) (f : ι → ℕ) : nat (∑ i ∈ s, f i) = ∑ i ∈ s, nat (f i) := by
  classical
  induction s using Finset.induction_on with
  | empty => simp [nat_zero]
  | insert a s ha ih => rw [Finset.sum_insert ha, Finset.sum_insert ha, nat_add, ih]
theorem nat_ite (p : Prop) [Decidable p] : nat (if p then 1 else 0) = if p then 1 else 0 := by
  split
  · exact nat_one
  · exact nat_zero

/-- A sum over `N` places masked to the first `n` of them. -/
theorem sum_below (f : ℕ → ℕ) {n N : ℕ} (h : n ≤ N) :
    (∑ x : Fin N, if x.val < n then f x.val else 0) = ∑ k ∈ Finset.range n, f k := by
  rw [← Finset.sum_range fun k => if k < n then f k else 0, ← Finset.sum_filter]
  congr 1
  ext k
  rw [Finset.mem_filter, Finset.mem_range, Finset.mem_range]
  omega

/-- A whole number below 2³¹ read back as a word is that word. -/
theorem fptosi_nat {n : ℕ} (hn : n < 2 ^ 31) : Idealize.ShloMosaic.Ideal.fptosi 32 (nat n) = BitVec.ofNat 32 n := by
  have h : Idealize.ShloMosaic.Ideal.toIntClamped (-(2 ^ (32 - 1) : ℕ)) ((2 ^ (32 - 1) : ℕ) - 1) (nat n) = (n : ℤ) := by
    unfold nat
    rw [Idealize.ShloMosaic.Ideal.toIntClamped_coe, if_pos (Nat.cast_nonneg n), Int.floor_natCast]
    have h2 : (n : ℤ) < 2 ^ 31 := by exact_mod_cast hn
    have h1 : (0 : ℤ) ≤ n := Int.natCast_nonneg n
    push_cast
    rw [min_eq_right (by norm_num; omega), max_eq_right (by norm_num)]
  unfold Idealize.ShloMosaic.Ideal.fptosi
  rw [h]
  exact BitVec.ofInt_natCast 32 n

/-- A comparison's bit, widened and converted: one where it holds, zero where it does not. -/
theorem flag (b : BitVec 1) (p : Prop) [Decidable p] (h : b = 1#1 ↔ p) (φ : FTy) :
    (FloatOps.sitofp (F := Ideal) φ (BitVec.setWidth 32 b) : EReal) = if p then 1 else 0 := by
  have e : (FloatOps.sitofp (F := Ideal) φ (BitVec.setWidth 32 b) : EReal) = (((BitVec.setWidth 32 b).toInt : ℝ) : EReal) := rfl
  rw [e]
  rcases BitVec.eq_zero_or_eq_one b with rfl | rfl
  · rw [if_neg fun hp => absurd (h.2 hp) (by decide)]
    rw [show (BitVec.setWidth 32 (0#1)).toInt = 0 from by decide]
    simp
  · rw [if_pos (h.1 rfl)]
    rw [show (BitVec.setWidth 32 (1#1)).toInt = 1 from by decide]
    simp

/-- The same bit as a word. -/
theorem flag_word (b : BitVec 1) (p : Prop) [Decidable p] (h : b = 1#1 ↔ p) :
    BitVec.setWidth 32 b = if p then 1#32 else 0#32 := by
  rcases BitVec.eq_zero_or_eq_one b with rfl | rfl
  · rw [if_neg fun hp => absurd (h.2 hp) (by decide)]
    rfl
  · rw [if_pos (h.1 rfl)]
    rfl

theorem cmpi_ne_iff {w : ℕ} {a b : BitVec w} : IntOp.cmpi .ne a b = 1#1 ↔ ¬ a = b := by
  unfold IntOp.cmpi
  rw [Idealize.ShloMosaic.StableHlo.Predicate.ofBool_eq_one_iff]
  simp

/-! ## The two triangles and the indicator -/

theorem upper_apply (a b : Fin 128) : k0_pay3 (F := Ideal) (ix2 a b) = if a.val ≤ b.val then 1 else 0 := by
  pointwise [k0_pay3]
  refine flag _ _ ?_ _
  unfold IntOp.cmpi
  exact sle_ofNat_iff _ _ (by have := a.isLt; omega) (by have := b.isLt; omega)

theorem strict_apply (a b : Fin 16) : k0_pay4 (F := Ideal) (ix2 a b) = if b.val < a.val then 1 else 0 := by
  pointwise [k0_pay4]
  refine flag _ _ ?_ _
  unfold IntOp.cmpi
  exact slt_ofNat_iff _ _ (by have := b.isLt; omega) (by have := a.isLt; omega)

section
variable (y : BitVec 32) (T : Vec Ideal S2x8x128 .i32) (w : ℕ → BitVec 32)

/-- The table holds the words `w`, row after row. -/
def Holds : Prop := ∀ (a : Fin 2) (b : Fin 8) (l : Fin 128), T (ix3 a b l) = w (1024 * a.val + 128 * b.val + l.val)

variable {T w} (hT : Holds T w)
include hT

theorem words_apply (i : Fin 16) (j : Fin 128) : k0_pay5 (F := Ideal) T (ix2 i j) = w (128 * i.val + j.val) := by
  pointwise [k0_pay5]
  rw [hT]
  congr 1
  have := Nat.div_add_mod i.val 8
  show 1024 * (i.val / 8) + 128 * (i.val % 8) + j.val = _
  omega

theorem ind_apply (i : Fin 16) (j : Fin 128) :
    k0_pay6 (F := Ideal) y T (ix2 i j) = if w (128 * i.val + j.val) = y then 1 else 0 := by
  have h := words_apply hT i j
  pointwise [k0_pay6]
  rw [h]
  exact flag _ _ cmpi_eq_iff _

/-! ## The counts -/

/-- The running count along a row of the table. -/
theorem along_row (i : Fin 16) (j : Fin 128) :
    (∑ x : Fin 128, k0_pay6 (F := Ideal) y T (ix2 i x) * k0_pay3 (F := Ideal) (ix2 x j) : EReal)
      = nat (Nat.count (fun l => w (128 * i.val + l) = y) (j.val + 1)) := by
  rw [count_eq_sum, ← sum_below (fun k => if w (128 * i.val + k) = y then 1 else 0) (by have := j.isLt; omega : j.val + 1 ≤ 128), nat_sum]
  refine Finset.sum_congr rfl fun x _ => ?_
  rw [ind_apply y hT, upper_apply]
  by_cases h1 : x.val ≤ j.val
  · rw [if_pos h1, if_pos (Nat.lt_succ_of_le h1), mul_one, nat_ite]
  · rw [if_neg h1, if_neg (fun h => h1 (Nat.le_of_lt_succ h)), mul_zero, nat_zero]

/-- What the rows of the table before a row hold. -/
theorem rows_before (i : Fin 16) :
    (∑ x : Fin 16, k0_pay4 (F := Ideal) (ix2 i x)
        * ∑ x1 : Fin 128, k0_pay6 (F := Ideal) y T (ix2 x x1) * k0_pay3 (F := Ideal) (ix2 x1 127) : EReal)
      = nat (∑ k ∈ Finset.range i.val, Nat.count (fun l => w (128 * k + l) = y) 128) := by
  rw [← sum_below (fun k => Nat.count (fun l => w (128 * k + l) = y) 128) (le_of_lt i.isLt), nat_sum]
  refine Finset.sum_congr rfl fun x _ => ?_
  rw [along_row y hT, strict_apply]
  by_cases h1 : x.val < i.val
  · rw [if_pos h1, if_pos h1, one_mul]
    rfl
  · rw [if_neg h1, if_neg h1, zero_mul, nat_zero]

/-! ## The table -/

/-- The position of a row: its rank where it is for this device, past every output row where not. -/
theorem pos_apply (i : Fin 16) (j : Fin 128) :
    k0_pay7 (F := Ideal) y k0_pay3 k0_pay4 (k0_pay5 (F := Ideal) T) (k0_pay6 y T) (constant S16x128 .f32 0x00000000#32) (ix2 i j)
      = BitVec.ofNat 32 (Nat.count (fun r => w r = y) (128 * i.val + j.val))
        + if w (128 * i.val + j.val) = y then 0#32 else 2048#32 := by
  have hw := words_apply hT i j
  have hrow := along_row y hT i j
  have hbef := rows_before y hT i
  have hind := ind_apply y hT i j
  have hc : Nat.count (fun l => w (128 * i.val + l) = y) (j.val + 1)
      = Nat.count (fun l => w (128 * i.val + l) = y) j.val + if w (128 * i.val + j.val) = y then 1 else 0 := Nat.count_succ _ _
  rw [hc] at hrow
  pointwise [k0_pay7]
  rw [hbef, hrow, hind, hw, ← nat_add, ← nat_ite, ← add_assoc, nat_add_sub,
    ← count_rows (fun r => w r = y) 128 i.val j.val,
    flag_word _ _ cmpi_ne_iff]
  have hle : Nat.count (fun r => w r = y) (128 * i.val + j.val) ≤ 128 * i.val + j.val := Nat.count_le _
  have hi := i.isLt
  have hj := j.isLt
  rw [show (FloatOps.fptosi (F := Ideal) (φ := .f32) 32 (nat (Nat.count (fun r => w r = y) (128 * i.val + j.val))) : BitVec 32)
      = BitVec.ofNat 32 (Nat.count (fun r => w r = y) (128 * i.val + j.val)) from fptosi_nat (by omega)]
  by_cases h : w (128 * i.val + j.val) = y
  · rw [if_pos h, if_neg (not_not.mpr h)]
    rfl
  · rw [if_neg h, if_pos h]
    rfl

/-- An output row meets a row's position exactly where the row is for this device and has that rank. -/
theorem pos_eq_iff (i : Fin 16) (j : Fin 128) (n : Fin 1024) :
    k0_pay7 (F := Ideal) y k0_pay3 k0_pay4 (k0_pay5 (F := Ideal) T) (k0_pay6 y T) (constant S16x128 .f32 0x00000000#32) (ix2 i j)
        = BitVec.ofNat 32 n.val
      ↔ w (128 * i.val + j.val) = y ∧ Nat.count (fun r => w r = y) (128 * i.val + j.val) = n.val := by
  rw [pos_apply y hT]
  have hle : Nat.count (fun r => w r = y) (128 * i.val + j.val) ≤ 128 * i.val + j.val := Nat.count_le _
  have hi := i.isLt
  have hj := j.isLt
  have hn := n.isLt
  by_cases h : w (128 * i.val + j.val) = y
  · rw [if_pos h, BitVec.add_zero]
    refine ⟨fun e => ⟨h, ?_⟩, fun e => by rw [e.2]⟩
    have e' := congrArg BitVec.toNat e
    rw [BitVec.toNat_ofNat, BitVec.toNat_ofNat] at e'
    omega
  · rw [if_neg h]
    refine ⟨fun e => ?_, fun e => absurd e.1 h⟩
    have e' := congrArg BitVec.toNat e
    rw [BitVec.toNat_add, BitVec.toNat_ofNat, BitVec.toNat_ofNat, BitVec.toNat_ofNat] at e'
    omega

end

end Cert.Exchange

end
-- ==== Proof.Gather.lean ====
/-
# The rows gathered

A device multiplies one-hot matrices by the rows of both devices. Read at an output place, the
products are sums over the rows, each weighed by one where the row goes there and by zero where it
does not.
-/
module

public import proofs.«01_k».proof.Proof.Table

@[expose] public section

set_option maxRecDepth 16384

noncomputable section

namespace Cert.Exchange

open Cert.KernelIdeal Cert.KernelIdeal.Gen
open Idealize.ShloMosaic Idealize.ShloMosaic.Pointwise
open Idealize.ShloMosaic.StableHlo.Predicate (cmpi_eq_iff)

/-- The weight of row `r` at output row `n` of the device for destination `y`. -/
def hit (w : ℕ → BitVec 32) (y : BitVec 32) (n r : ℕ) : EReal :=
  if w r = y ∧ Nat.count (fun s => w s = y) r = n then 1 else 0

/-- The row numbers of an output tile. -/
abbrev rowNo : IVec S1024x128 32 := iota .tc S1024x128 32 [0] iota_S1024x128_d0_w32

theorem rowNo_apply (n : Fin 1024) (x : Fin 128) : rowNo (ix2 n x) = BitVec.ofNat 32 n.val := by
  pointwise [rowNo]

/-- A sum over 1024 rows, in eight stretches of 128. -/
theorem sum_stretches {M : Type} [AddCommMonoid M] (f : Fin 1024 → M) :
    ∑ k : Fin 1024, f k = ∑ h : Fin 8, ∑ x : Fin 128, f ⟨128 * h.val + x.val, by omega⟩ := by
  rw [← Finset.sum_product', Finset.univ_product_univ]
  refine (Finset.sum_equiv (finProdFinEquiv (m := 8) (n := 128)) (by simp) ?_).symm
  intro i _
  congr 1
  apply Fin.ext
  show 128 * i.1.val + i.2.val = i.2.val + 128 * i.1.val
  omega

/-- Eight one-hot pieces side by side, times the rows. -/
theorem joined_apply (L : IVec S8x128 32) (p0 p1 p2 p3 p4 p5 : FVec Ideal S1024x128 .bf16) (g : IVec S1x128 32)
    (xo : Vec Ideal S1x1024x512 .bf16) (n : Fin 1024) (j : Fin 512) (H : ℕ → EReal)
    (h0 : ∀ x, p0 (ix2 n x) = H (128 * 0 + x.val)) (h1 : ∀ x, p1 (ix2 n x) = H (128 * 1 + x.val))
    (h2 : ∀ x, p2 (ix2 n x) = H (128 * 2 + x.val)) (h3 : ∀ x, p3 (ix2 n x) = H (128 * 3 + x.val))
    (h4 : ∀ x, p4 (ix2 n x) = H (128 * 4 + x.val)) (h5 : ∀ x, p5 (ix2 n x) = H (128 * 5 + x.val))
    (h6 : ∀ x, (FloatOps.sitofp (F := Ideal) .f32 (BitVec.setWidth 32 (IntOp.cmpi .eq (g (ix2 0 x)) (BitVec.ofNat 32 n.val))) : EReal)
      = H (128 * 6 + x.val))
    (h7 : ∀ x, (FloatOps.sitofp (F := Ideal) .f32 (BitVec.setWidth 32 (IntOp.cmpi .eq (L (ix2 7 x)) (BitVec.ofNat 32 n.val))) : EReal)
      = H (128 * 7 + x.val)) :
    k0_pay17 (F := Ideal) rowNo L p0 p1 p2 p3 p4 p5 g xo (ix2 n j) = ∑ k : Fin 1024, H k.val * xo (ix3 0 k j) := by
  pointwise [k0_pay17, rowNo]
  refine Finset.sum_congr rfl fun k _ => ?_
  congr 1
  have hk := k.isLt
  split_ifs
  all_goals first
    | exact absurd rfl ‹¬ _ = _›
    | (rw [h0]; congr 1; show 128 * 0 + (k.val) = k.val; omega)
    | (rw [h1]; congr 1; show 128 * 1 + (k.val - 128) = k.val; omega)
    | (rw [h2]; congr 1; show 128 * 2 + (k.val - 128 - 128) = k.val; omega)
    | (rw [h3]; congr 1; show 128 * 3 + (k.val - 128 - 128 - 128) = k.val; omega)
    | (rw [h4]; congr 1; show 128 * 4 + (k.val - 128 - 128 - 128 - 128) = k.val; omega)
    | (rw [h5]; congr 1; show 128 * 5 + (k.val - 128 - 128 - 128 - 128 - 128) = k.val; omega)
    | (rw [h6]; congr 1; show 128 * 6 + (k.val - 128 - 128 - 128 - 128 - 128 - 128) = k.val; omega)
    | (rw [h7]; congr 1; show 128 * 7 + (k.val - 128 - 128 - 128 - 128 - 128 - 128 - 128) = k.val; omega)

/-- The output places of a device's own rows, and of the other device's, as the program computes them. -/
abbrev ownPlace (yy : Fin 2) (T : Vec Ideal S2x8x128 .i32) : IVec S8x128 32 :=
  k0_pay8 (F := Ideal) (BitVec.ofNat 32 yy.val) k0_pay3 k0_pay4 (k0_pay5 (F := Ideal) T) (k0_pay6 (BitVec.ofNat 32 yy.val) T)
    (constant S16x128 .f32 0x00000000#32)
abbrev otherPlace (yy : Fin 2) (T : Vec Ideal S2x8x128 .i32) : IVec S8x128 32 :=
  k0_pay9 (F := Ideal) (BitVec.ofNat 32 yy.val) k0_pay3 k0_pay4 (k0_pay5 (F := Ideal) T) (k0_pay6 (BitVec.ofNat 32 yy.val) T)
    (constant S16x128 .f32 0x00000000#32)

section
variable (yy : Fin 2) {T : Vec Ideal S2x8x128 .i32} {w : ℕ → BitVec 32} (hT : Holds T w)
include hT

theorem loc_eq_iff (h : Fin 8) (x : Fin 128) (n : Fin 1024) :
    ownPlace yy T (ix2 h x) = BitVec.ofNat 32 n.val
      ↔ w (1024 * yy.val + (128 * h.val + x.val)) = BitVec.ofNat 32 yy.val
        ∧ Nat.count (fun s => w s = BitVec.ofNat 32 yy.val) (1024 * yy.val + (128 * h.val + x.val)) = n.val := by
  have h0 := pos_eq_iff (BitVec.ofNat 32 yy.val) hT ⟨h.val, by omega⟩ x n
  have h1 := pos_eq_iff (BitVec.ofNat 32 yy.val) hT ⟨8 + h.val, by omega⟩ x n
  rw [show 128 * (8 + h.val) + x.val = 1024 + (128 * h.val + x.val) from by omega] at h1
  pointwise [ownPlace, k0_pay8]
  rcases (by have := yy.isLt; omega : yy.val = 0 ∨ yy.val = 1) with hy | hy
  · rw [hy] at h0 ⊢
    rw [show Scalar.cmpi .eq (BitVec.ofNat 32 0) 0#32 = 1#1 from by decide, ValueIdx.select_one]
    simpa using h0
  · rw [hy] at h1 ⊢
    rw [show Scalar.cmpi .eq (BitVec.ofNat 32 1) 0#32 = 0#1 from by decide, ValueIdx.select_zero]
    simpa using h1

theorem rem_eq_iff (h : Fin 8) (x : Fin 128) (n : Fin 1024) :
    otherPlace yy T (ix2 h x) = BitVec.ofNat 32 n.val
      ↔ w (1024 * (1 - yy.val) + (128 * h.val + x.val)) = BitVec.ofNat 32 yy.val
        ∧ Nat.count (fun s => w s = BitVec.ofNat 32 yy.val) (1024 * (1 - yy.val) + (128 * h.val + x.val)) = n.val := by
  have h0 := pos_eq_iff (BitVec.ofNat 32 yy.val) hT ⟨h.val, by omega⟩ x n
  have h1 := pos_eq_iff (BitVec.ofNat 32 yy.val) hT ⟨8 + h.val, by omega⟩ x n
  rw [show 128 * (8 + h.val) + x.val = 1024 + (128 * h.val + x.val) from by omega] at h1
  pointwise [otherPlace, k0_pay9]
  rcases (by have := yy.isLt; omega : yy.val = 0 ∨ yy.val = 1) with hy | hy
  · rw [hy] at h1 ⊢
    rw [show Scalar.cmpi .eq (BitVec.ofNat 32 0) 0#32 = 1#1 from by decide, ValueIdx.select_one]
    simpa using h1
  · rw [hy] at h0 ⊢
    rw [show Scalar.cmpi .eq (BitVec.ofNat 32 1) 0#32 = 0#1 from by decide, ValueIdx.select_zero]
    simpa using h0

/-- The weight, read off a comparison of a position with the row number. -/
theorem hit_loc (h : Fin 8) (x : Fin 128) (n : Fin 1024) :
    (FloatOps.sitofp (F := Ideal) .f32 (BitVec.setWidth 32 (IntOp.cmpi .eq (ownPlace yy T (ix2 h x)) (BitVec.ofNat 32 n.val))) : EReal)
      = hit w (BitVec.ofNat 32 yy.val) n.val (1024 * yy.val + (128 * h.val + x.val)) :=
  flag _ _ (cmpi_eq_iff.trans (loc_eq_iff yy hT h x n)) _

theorem hit_rem (h : Fin 8) (x : Fin 128) (n : Fin 1024) :
    (FloatOps.sitofp (F := Ideal) .f32 (BitVec.setWidth 32 (IntOp.cmpi .eq (otherPlace yy T (ix2 h x)) (BitVec.ofNat 32 n.val))) : EReal)
      = hit w (BitVec.ofNat 32 yy.val) n.val (1024 * (1 - yy.val) + (128 * h.val + x.val)) :=
  flag _ _ (cmpi_eq_iff.trans (rem_eq_iff yy hT h x n)) _

/-! ## The device's own rows -/

theorem own_apply (xo : Vec Ideal S1x1024x512 .bf16) (n : Fin 1024) (j : Fin 512) :
    k0_pay17 (F := Ideal) rowNo (ownPlace yy T)
        (k0_pay10 (BitVec.ofNat 32 yy.val) k0_pay3 k0_pay4 rowNo (k0_pay5 (F := Ideal) T) (k0_pay6 (BitVec.ofNat 32 yy.val) T) (constant S16x128 .f32 0x00000000#32))
        (k0_pay11 (BitVec.ofNat 32 yy.val) k0_pay3 k0_pay4 rowNo (k0_pay5 (F := Ideal) T) (k0_pay6 (BitVec.ofNat 32 yy.val) T) (constant S16x128 .f32 0x00000000#32))
        (k0_pay12 (BitVec.ofNat 32 yy.val) k0_pay3 k0_pay4 rowNo (k0_pay5 (F := Ideal) T) (k0_pay6 (BitVec.ofNat 32 yy.val) T) (constant S16x128 .f32 0x00000000#32))
        (k0_pay13 (BitVec.ofNat 32 yy.val) k0_pay3 k0_pay4 rowNo (k0_pay5 (F := Ideal) T) (k0_pay6 (BitVec.ofNat 32 yy.val) T) (constant S16x128 .f32 0x00000000#32))
        (k0_pay14 (BitVec.ofNat 32 yy.val) k0_pay3 k0_pay4 rowNo (k0_pay5 (F := Ideal) T) (k0_pay6 (BitVec.ofNat 32 yy.val) T) (constant S16x128 .f32 0x00000000#32))
        (k0_pay15 (BitVec.ofNat 32 yy.val) k0_pay3 k0_pay4 rowNo (k0_pay5 (F := Ideal) T) (k0_pay6 (BitVec.ofNat 32 yy.val) T) (constant S16x128 .f32 0x00000000#32))
        (k0_pay16 (BitVec.ofNat 32 yy.val) k0_pay3 k0_pay4 (k0_pay5 (F := Ideal) T) (k0_pay6 (BitVec.ofNat 32 yy.val) T) (constant S16x128 .f32 0x00000000#32)) xo (ix2 n j)
      = ∑ k : Fin 1024, hit w (BitVec.ofNat 32 yy.val) n.val (1024 * yy.val + k.val) * xo (ix3 0 k j) := by
  refine joined_apply _ _ _ _ _ _ _ _ xo n j (fun k => hit w (BitVec.ofNat 32 yy.val) n.val (1024 * yy.val + k)) ?_ ?_ ?_ ?_ ?_ ?_ ?_ ?_
  · intro x
    pointwise [k0_pay10, rowNo]
    have e := hit_loc yy hT 0 x n
    rw [show 128 * (0 : Fin 8).val + x.val = x.val from by simp] at e
    exact e
  · intro x
    pointwise [k0_pay11, rowNo]
    exact hit_loc yy hT 1 x n
  · intro x
    pointwise [k0_pay12, rowNo]
    exact hit_loc yy hT 2 x n
  · intro x
    pointwise [k0_pay13, rowNo]
    exact hit_loc yy hT 3 x n
  · intro x
    pointwise [k0_pay14, rowNo]
    exact hit_loc yy hT 4 x n
  · intro x
    pointwise [k0_pay15, rowNo]
    exact hit_loc yy hT 5 x n
  · intro x
    pointwise [k0_pay16]
    exact hit_loc yy hT 6 x n
  · intro x
    exact hit_loc yy hT 7 x n

/-! ## The other device's rows, a quarter at a time -/

theorem quarters_apply (a : FVec Ideal S1024x512 .f32) (q0 q1 q2 q3 : Vec Ideal S1x256x512 .bf16) (n : Fin 1024) (j : Fin 512)
    (X : Fin 1024 → EReal)
    (e0 : ∀ b : Fin 256, q0 (ix3 0 b j) = X ⟨b.val, by omega⟩) (e1 : ∀ b : Fin 256, q1 (ix3 0 b j) = X ⟨256 + b.val, by omega⟩)
    (e2 : ∀ b : Fin 256, q2 (ix3 0 b j) = X ⟨512 + b.val, by omega⟩) (e3 : ∀ b : Fin 256, q3 (ix3 0 b j) = X ⟨768 + b.val, by omega⟩) :
    k0_pay23 (F := Ideal) rowNo (otherPlace yy T) (k0_pay22 rowNo (otherPlace yy T) (k0_pay21 rowNo (otherPlace yy T) a (k0_pay18 q0) (k0_pay19 rowNo (otherPlace yy T)) (k0_pay20 rowNo (otherPlace yy T)) q1) q2) q3 (ix2 n j)
      = a (ix2 n j) + ∑ k : Fin 1024, hit w (BitVec.ofNat 32 yy.val) n.val (1024 * (1 - yy.val) + k.val) * X k := by
  have hh := fun h x => hit_rem yy hT h x n
  generalize hl : otherPlace yy T = R at *
  pointwise [k0_pay23, k0_pay22, k0_pay21, k0_pay20, k0_pay19, k0_pay18, rowNo]
  simp only [hh]
  rw [sum_stretches, Fin.sum_univ_eight]
  simp only [e0, e1, e2, e3, ← add_assoc]
  rfl

end

end Cert.Exchange

end
-- ==== Proof.Value.lean ====
/-
# What a device leaves

The result of a device, read at a row: the one row of the whole array which goes there, whichever
device of the pair holds it.
-/
module

public import proofs.«01_k».proof.Proof.Launch
public import proofs.«01_k».proof.Proof.Gather

@[expose] public section

set_option maxRecDepth 16384

noncomputable section

namespace Cert.Exchange

open Cert.KernelIdeal Cert.KernelIdeal.Gen
open Idealize.ShloMosaic Idealize.ShloMosaic.Pointwise Idealize.ShloMosaic.TcCoe
open Idealize.SL Idealize.SL.Sem

/-! ## One row among many -/

/-- Where one row has the place, a stretch of weighed rows sums to that row if it lies in the
    stretch, and to zero if it does not. -/
theorem sum_hit {w : ℕ → BitVec 32} {y : BitVec 32} {n r : ℕ} (hr : w r = y) (hn : Nat.count (fun s => w s = y) r = n)
    (B : ℕ) (G : ℕ → EReal) :
    ∑ k : Fin 1024, hit w y n (B + k.val) * G (B + k.val) = if B ≤ r ∧ r < B + 1024 then G r else 0 := by
  have key : ∀ s, s ≠ r → hit w y n s = 0 := fun s hs =>
    if_neg fun h => hs (rank_unique (p := fun s => w s = y) h.1 hr (h.2.trans hn.symm))
  have own : hit w y n r = 1 := if_pos ⟨hr, hn⟩
  split_ifs with h
  · rw [Finset.sum_eq_single (⟨r - B, by omega⟩ : Fin 1024)]
    · rw [show B + (r - B) = r by omega, own, one_mul]
    · intro k _ hk
      rw [key _ fun e => hk (Fin.ext (by show k.val = r - B; omega)), zero_mul]
    · exact fun h => absurd (Finset.mem_univ _) h
  · refine Finset.sum_eq_zero fun k _ => ?_
    have hk := k.isLt
    rw [key _ fun e => h (by omega), zero_mul]

/-- The result of a device of rank `yy`, from the table of the pair's destinations and the rows of
    both devices, at output row `n`: the row which goes there. -/
theorem outOf_apply (yy : Fin 2) {T : Vec Ideal S2x8x128 .i32} {w : ℕ → BitVec 32} (hT : Holds T w)
    (xo : Vec Ideal S1x1024x512 .bf16) (q0 q1 q2 q3 : Vec Ideal S1x256x512 .bf16) (n : Fin 1024) (j : Fin 512) (G : ℕ → EReal)
    (eo : ∀ k : Fin 1024, xo (ix3 (0 : Fin 1) k j) = G (1024 * yy.val + k.val))
    (e0 : ∀ b : Fin 256, q0 (ix3 (0 : Fin 1) b j) = G (1024 * (1 - yy.val) + b.val))
    (e1 : ∀ b : Fin 256, q1 (ix3 (0 : Fin 1) b j) = G (1024 * (1 - yy.val) + (256 + b.val)))
    (e2 : ∀ b : Fin 256, q2 (ix3 (0 : Fin 1) b j) = G (1024 * (1 - yy.val) + (512 + b.val)))
    (e3 : ∀ b : Fin 256, q3 (ix3 (0 : Fin 1) b j) = G (1024 * (1 - yy.val) + (768 + b.val)))
    {r : ℕ} (hlt : r < 2048) (hr : w r = BitVec.ofNat 32 yy.val) (hn : Nat.count (fun s => w s = BitVec.ofNat 32 yy.val) r = n.val) :
    outOf (F := Ideal) (BitVec.ofNat 32 yy.val) T xo q0 q1 q2 q3 (ix2 n j) = G r := by
  unfold outOf
  refine (quarters_apply yy hT _ q0 q1 q2 q3 n j (fun k => G (1024 * (1 - yy.val) + k.val)) e0 e1 e2 e3).trans ?_
  rw [own_apply yy hT xo n j]
  simp only [eo]
  rw [sum_hit hr hn, sum_hit hr hn]
  have hy := yy.isLt
  split_ifs with h1 h2 h2
  · omega
  · rw [add_zero]
  · rw [zero_add]
  · omega

/-! ## The blocks, staged -/

variable {F : FTy → Type} [FloatOps F]
variable (m : (ℓ : Loc nD τ sig) → Buf (Elt F) ℓ) (ρ : Dev nD → PrngReg)

theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

theorem dstg_eq (c : Dev nD) : dstg m ρ c = m ((c : Thread nD τ).loc main_arg1) := by
  have hz : (fun a => (win0_1.index (0 : Fin 1)) a * main_arg1.ty.shape.size a) = fun _ => 0 :=
    funext fun a => by fin_cases a; decide
  exact Memref.read_access_unit_zero (Elt F) main_arg1 hz (fun a => by fin_cases a; decide) _

/-- The result array ends at the device's result. -/
theorem finalA_o (c : Dev nD) : finalA m ρ c (2 : Fin 3) = outAt m ρ c := by
  have h : (win0_2.blk (0 : Fin 1)).view.read (Elt F) (finalA m ρ c (2 : Fin 3)) = outAt m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  have hz : (fun a => (win0_2.index (0 : Fin 1)) a * main_v1.ty.shape.size a) = fun _ => 0 :=
    funext fun a => by fin_cases a <;> decide
  exact (Memref.read_access_unit_zero (Elt F) main_v1 hz (fun a => by fin_cases a <;> decide) _).symm.trans h

theorem rkWord_eq (c : Dev nD) : rkWord c = BitVec.ofNat 32 (rk c).val := by revert c; decide

theorem rk_pairAt (c : Dev nD) (y : Fin 2) : rk (pairAt c y) = y := by revert c y; decide
theorem rk_peer_sub (c : Dev nD) : (rk (peer c)).val = 1 - (rk c).val := by revert c; decide

/-! ## The result of a device -/

section
variable (m : (ℓ : Loc nD τ sig) → Buf (Elt Ideal) ℓ) (ρ : Dev nD → PrngReg)

theorem k0_pay1_apply (v : Vec Ideal S1024 .i32) (b : Fin 8) (l : Fin 128) :
    k0_pay1 (F := Ideal) v (ix3 (0 : Fin 1) b l) = v (ix1 (⟨128 * b.val + l.val, by have := b.isLt; have := l.isLt; omega⟩ : Fin 1024)) := by
  refine Eq.trans (b := v (ix1 (⟨b.val * 128 + l.val, by have := b.isLt; have := l.isLt; omega⟩ : Fin 1024))) ?_ ?_
  · pointwise [k0_pay1]
  · congr 2; exact Fin.ext (by show b.val * 128 + l.val = 128 * b.val + l.val; omega)

theorem k0_pay2_apply (v : Vec Ideal S1024x512 .f32) (k : Fin 1024) (j : Fin 512) :
    k0_pay2 (F := Ideal) v (ix3 (0 : Fin 1) k j) = v (ix2 k j) := by
  pointwise [k0_pay2]

/-- The table of destinations holds the whole array's, when each device holds its block. -/
theorem holds_tabD {w : ℕ → BitVec 32}
    (hd : ∀ (c : Dev nD) (k : Fin 1024), m ((c : Thread nD τ).loc main_arg1) (ix1 k) = w (1024 * (rk c).val + k.val)) (c : Dev nD) :
    Holds (tabD m ρ c) w := by
  intro a b l
  have e : inD (ix3 a b l) = ix3 (0 : Fin 1) b l := by
    funext x; match x with
    | ⟨0, _⟩ => rfl
    | ⟨1, _⟩ => rfl
    | ⟨2, _⟩ => rfl
  show k0_pay1 (F := Ideal) (dstg m ρ (pairAt c a)) (inD (ix3 a b l)) = _
  rw [e, k0_pay1_apply, dstg_eq]
  refine (hd (pairAt c a) _).trans ?_
  rw [rk_pairAt]
  congr 1
  show 1024 * a.val + (128 * b.val + l.val) = _
  omega

/-- A quarter of the other device's rows, at a row. -/
theorem quarter_apply (c : Dev nD) (k : Fin 4) (b : Fin 256) (j : Fin 512) :
    quarter m ρ c k (ix3 (0 : Fin 1) b j)
      = m ((peer c : Thread nD τ).loc main_arg0) (ix2 (⟨256 * k.val + b.val, by have := k.isLt; have := b.isLt; omega⟩ : Fin 1024) j) := by
  have e : ofQ k (ix3 (0 : Fin 1) b j) = ix3 (0 : Fin 1) (⟨256 * k.val + b.val, by have := k.isLt; have := b.isLt; omega⟩ : Fin 1024) j := by
    funext x; match x with
    | ⟨0, _⟩ => rfl
    | ⟨1, _⟩ => rfl
    | ⟨2, _⟩ => rfl
  show k0_pay2 (F := Ideal) (xstg m ρ (peer c)) (ofQ k (ix3 (0 : Fin 1) b j)) = _
  rw [e, k0_pay2_apply, xstg_eq]

/-- When every device holds its block of the whole arrays, and as many rows go to either device of
    a pair, row `n` of a device's result is the row of the whole array which goes there. -/
theorem outAt_apply {w : ℕ → BitVec 32} {G : ℕ → Fin 512 → EReal}
    (hx : ∀ (c : Dev nD) (k : Fin 1024) (j : Fin 512), m ((c : Thread nD τ).loc main_arg0) (ix2 k j) = G (1024 * (rk c).val + k.val) j)
    (hd : ∀ (c : Dev nD) (k : Fin 1024), m ((c : Thread nD τ).loc main_arg1) (ix1 k) = w (1024 * (rk c).val + k.val))
    (h : Balanced w 1024) (c : Dev nD) (n : Fin 1024) (j : Fin 512) (k : Fin (2 * 1024)) (hk : k.val = 1024 * (rk c).val + n.val) :
    outAt m ρ c (ix2 n j) = G (h.row k).val j := by
  have hc := (rk c).isLt
  have hn := n.isLt
  have hq : ∀ (q : Fin 4) (b : Fin 256), quarter m ρ c q (ix3 (0 : Fin 1) b j) = G (1024 * (1 - (rk c).val) + (256 * q.val + b.val)) j := fun q b => by
    rw [quarter_apply]
    refine (hx (peer c) _ j).trans ?_
    rw [rk_peer_sub]
  unfold outAt
  rw [rkWord_eq]
  refine outOf_apply (rk c) (holds_tabD m ρ hd c) _ _ _ _ _ n j (fun r => G r j) ?_ ?_ (hq 1) (hq 2) (hq 3) (h.row k).isLt ?_ ?_
  · intro b
    rw [k0_pay2_apply, xstg_eq]
    exact hx c b j
  · intro b
    refine (hq 0 b).trans ?_
    show G (1024 * (1 - (rk c).val) + (256 * 0 + b.val)) j = _
    rw [Nat.mul_zero, Nat.zero_add]
  · refine (h.row_word k).trans ?_
    congr 1; omega
  · have e := h.row_rank k
    rw [show k.val / 1024 = (rk c).val by omega, show k.val % 1024 = n.val by omega] at e
    exact e

end

end Cert.Exchange

end
-- ==== Proof.Reference.lean ====
/-
# The reference's value, and the mask read

A stable sort by destination puts the rows for the first device before the rows for the second,
each in their order, so the reference's row `k` is the row which `Balanced` names at `k`. The mask
is set exactly when as many rows go to either device.
-/
module

public import proofs.«01_k».proof.Proof.Ranks
public import proofs.«01_k».proof.Proof.Gen.ReferenceIdeal
public import proofs.«01_k».proof.Proof.Gen.ReferenceIdeal.Run
public import proofs.«01_k».proof.Proof.Gen.On_balanced
public import Idealize.ShloMosaic.PureOps.Ideal
public import Idealize.ShloMosaic.Lib.PlanTiles.StableSort
public import Idealize.ShloMosaic.Lib.Routing.Ops
public import Idealize.ShloMosaic.Lib.StableHlo.Predicate

@[expose] public section

set_option maxRecDepth 16384

noncomputable section

namespace Cert.Exchange

open Idealize.ShloMosaic Idealize.ShloMosaic.ValueIdx
open Idealize.ShloMosaic.Routing (shape1 shape2 ofFin_eq_ix1 ixP_eq_ix2 gather_row)
open Idealize.ShloMosaic.PlanTiles
open Idealize.ShloMosaic.StableHlo.Predicate (cmpi_eq_iff toNat_fold_addi toNat_setWidth_bit bcast_col1 slt_ofNat_iff)

/-- A whole array of destinations, as a function of the row number. -/
def wordAt (d : IVec (⟨1, ![2048]⟩ : Shape) 32) (r : ℕ) : BitVec 32 := if h : r < 2048 then d (ix1 (⟨r, h⟩ : Fin 2048)) else 0#32

theorem wordAt_fin (d : IVec (⟨1, ![2048]⟩ : Shape) 32) (r : Fin 2048) : wordAt d r.val = d (ix1 r) := dif_pos r.isLt

/-! ## The sort -/

/-- The sorted row numbers: place `k` holds the row which `Balanced` names at `k`. -/
theorem sort_apply (d : IVec (⟨1, ![2048]⟩ : Shape) 32) (h : Balanced (wordAt d) 1024) (k : Fin (2 * 1024)) :
    (Host.sort2 (⟨1, ![2048]⟩ : Shape) 0 Cert.ReferenceIdeal.comparator_i32_i32_d0 d (iotaInDim (⟨1, ![2048]⟩ : Shape) 32 0)).2 (ix1 (k : Fin 2048))
      = BitVec.ofNat 32 (h.row k).val := by
  have hd : 0 < (shape1 2048).rank := Nat.zero_lt_one
  have e : ∀ (j : (shape1 2048).Idx) (c : Fin 2048), j.along (⟨0, hd⟩ : Fin (shape1 2048).rank) c = ix1 c := fun j c =>
    (Shape.Idx.along_rank1 j c).trans (ofFin_eq_ix1 c)
  have hb : (fun a b : Fin (2 * 1024) => Cert.ReferenceIdeal.comparator_i32_i32_d0
        (d ((ix1 (k : Fin 2048) : (shape1 2048).Idx).along ⟨0, hd⟩ a), iotaInDim (shape1 2048) 32 0 ((ix1 (k : Fin 2048) : (shape1 2048).Idx).along ⟨0, hd⟩ a))
        (d ((ix1 (k : Fin 2048) : (shape1 2048).Idx).along ⟨0, hd⟩ b), iotaInDim (shape1 2048) 32 0 ((ix1 (k : Fin 2048) : (shape1 2048).Idx).along ⟨0, hd⟩ b)) == 1#1)
      = fun a b => decide (Balanced.first (wordAt d) b.val < Balanced.first (wordAt d) a.val) := by
    funext a b
    show (IntOp.cmpi .slt (d ((ix1 (k : Fin 2048) : (shape1 2048).Idx).along ⟨0, hd⟩ a)) (d ((ix1 (k : Fin 2048) : (shape1 2048).Idx).along ⟨0, hd⟩ b)) == 1#1) = _
    rw [e _ a, e _ b, ← wordAt_fin d a, ← wordAt_fin d b]
    exact h.slt_first a.isLt b.isLt
  have hs : sortedFrom (n := 2048) (fun a b : Fin 2048 => Cert.ReferenceIdeal.comparator_i32_i32_d0
        (d ((ix1 (k : Fin 2048) : (shape1 2048).Idx).along ⟨0, hd⟩ a), iotaInDim (shape1 2048) 32 0 ((ix1 (k : Fin 2048) : (shape1 2048).Idx).along ⟨0, hd⟩ a))
        (d ((ix1 (k : Fin 2048) : (shape1 2048).Idx).along ⟨0, hd⟩ b), iotaInDim (shape1 2048) 32 0 ((ix1 (k : Fin 2048) : (shape1 2048).Idx).along ⟨0, hd⟩ b)) == 1#1) k
      = h.row k := (congrArg (fun f => sortedFrom f k) hb).trans (h.sortedFrom_row k)
  unfold Host.sort2
  rw [dif_pos hd]
  exact congrArg (iotaInDim (shape1 2048) 32 0) ((e _ _).trans (congrArg ix1 hs))

/-! ## The reference's rows -/

section
open Cert.ReferenceIdeal Cert.ReferenceIdeal.Gen

/-- The reference's result, of the whole arrays. -/
def refOut (x : FVec Ideal S2048x512 .f32) (d : IVec S2048 32) : FVec Ideal S2048x512 .f32 :=
  let o := (Host.sort2 S2048 0 comparator_i32_i32_d0 d (iotaInDim S2048 32 0)).2
  Host.gather gather_S2048x512_S2048x1_S2048x512_1_0_n_n_0_1_1512 x
    (broadcastInDim S2048x1 ![0] bcast_S2048_S2048x1_0 (select (cmpi .slt o (broadcastInDim S2048 ![] bcast_S_S2048 (constantI S_ 32 0#32)))
      (addi o (broadcastInDim S2048 ![] bcast_S_S2048 (constantI S_ 32 2048#32))) o))

/-- Row `k` of the reference's result is the row which `Balanced` names at `k`: no index is negative,
    so the correction of negative ones changes nothing. -/
theorem refOut_apply (x : FVec Ideal S2048x512 .f32) (d : IVec S2048 32) (h : Balanced (wordAt d) 1024) (k : Fin (2 * 1024)) (j : Fin 512) :
    refOut x d (ix2 (k : Fin 2048) j) = x (ix2 (h.row k : Fin 2048) j) := by
  unfold refOut
  have hr : (h.row k).val < 2048 := (h.row k).isLt
  refine gather_row _ rfl rfl rfl rfl rfl x _ (k : Fin 2048) j (h.row k : Fin 2048) ?_ (by decide)
  have eb : ∀ (v : IVec S2048 32), broadcastInDim S2048x1 ![0] bcast_S2048_S2048x1_0 v (ix2 (k : Fin 2048) (0 : Fin 1)) = v (ix1 (k : Fin 2048)) := fun v => by
    rw [← ixP_eq_ix2, ← ofFin_eq_ix1]
    exact bcast_col1 _ v (k : Fin 2048)
  rw [eb]
  have hz : ¬ (IntOp.cmpi .slt (BitVec.ofNat 32 (h.row k).val) 0#32 = 1#1) := by
    intro hs
    have := (slt_ofNat_iff (h.row k).val 0 (by omega) (by decide)).1 hs
    omega
  show Scalar.select (IntOp.cmpi .slt _ 0#32) _ _ = _
  rw [sort_apply d h k]
  exact if_neg hz
end

/-! ## The mask -/

section
open Cert.On_balanced Cert.On_balanced.Gen

/-- The sum of a vector of bits is their number. -/
theorem sum_bits (b : IVec S2048 1) (p : ℕ → Prop) [DecidablePred p] (hb : ∀ r : Fin 2048, b (ix1 r) = 1#1 ↔ p r.val) (i : S_.Idx) :
    (Host.reduce IntOp.addi (extui 32 b natLt_1_32) (constantI S_ 32 0#32) reducesTo_S2048_S_d0 h_S_ i).toNat = Nat.count p 2048 := by
  classical
  have hsum : ∑ k ∈ Finset.univ.filter (fun k : S2048.Idx => reducesTo_S2048_S_d0.drop k = i), (extui 32 b natLt_1_32 k).toNat = Nat.count p 2048 := by
    rw [count_eq_sum_fin]
    refine Finset.sum_bij' (fun k _ => (k 0 : Fin 2048)) (fun r _ => ix1 r) (fun _ _ => Finset.mem_univ _)
      (fun r _ => Finset.mem_filter.2 ⟨Finset.mem_univ _, funext fun a => a.elim0⟩)
      (fun k _ => (eq_ix1 k).symm) (fun _ _ => rfl) ?_
    intro k _
    rw [eq_ix1 k]
    exact (toNat_setWidth_bit (b (ix1 (k 0)))).trans (if_congr (hb (k 0)) rfl rfl)
  rw [Host.reduce_eq_fold]
  refine (toNat_fold_addi _ _ ?_).trans hsum
  rw [hsum]
  exact lt_of_le_of_lt (Nat.count_le _) (by decide)

/-- Where the program's count of a destination is 1024, so many rows have it. -/
theorem count_of_sum (d : IVec S2048 32) (v : BitVec 32) (i : S_.Idx)
    (h : Host.reduce IntOp.addi (extui 32 (cmpi .eq d (broadcastInDim S2048 ![] bcast_S_S2048 (constantI S_ 32 v))) natLt_1_32) (constantI S_ 32 0#32)
      reducesTo_S2048_S_d0 h_S_ i = 1024#32) : Nat.count (fun r => wordAt d r = v) 2048 = 1024 := by
  rw [← sum_bits (cmpi .eq d (broadcastInDim S2048 ![] bcast_S_S2048 (constantI S_ 32 v))) (fun r => wordAt d r = v) (fun r => ?_) i, h]
  · rfl
  · rw [wordAt_fin]
    exact cmpi_eq_iff

/-- Where the mask is set anywhere, as many rows go to either device. -/
theorem balanced_of_mask (x : FVec Ideal S2048x512 .f32) (d : IVec S2048 32) (i : S2048x512.Idx)
    (h : Cert.On_balanced.fn (F := Ideal) x d i = 1#1) : Balanced (wordAt d) 1024 := by
  unfold Cert.On_balanced.fn at h
  obtain ⟨h0, h1⟩ := IntOp.andi_eq_one.1 h
  exact ⟨count_of_sum d 0#32 _ (cmpi_eq_iff.1 h0), count_of_sum d 1#32 _ (cmpi_eq_iff.1 h1)⟩
end

end Cert.Exchange

end
-- ==== Proof.Algebraic.lean ====
/-
# The kernel against the reference

Each device's block of the result, wherever the mask is set, is its block of the reference's.
-/
module

public import proofs.«01_k».proof.Defs
public import proofs.«01_k».proof.Proof.Value
public import proofs.«01_k».proof.Proof.Reference
public import Idealize.ShloMosaic.Lib.Pointwise.IndexBridge

@[expose] public section

set_option maxRecDepth 16384

noncomputable section

namespace Cert.Exchange

open Idealize.ShloMosaic Idealize.ShloMosaic.TcCoe
open Idealize.SL Idealize.SL.Sem

abbrev Row : Shape := ⟨1, ![2048]⟩
abbrev Whole : Shape := ⟨2, ![2048, 512]⟩
abbrev Block : Shape := ⟨2, ![1024, 512]⟩
abbrev Stretch : Shape := ⟨1, ![1024]⟩

/-- A whole array of rows, as a function of the row number. -/
def rowAt (x : FVec Ideal Whole .f32) (r : ℕ) (j : Fin 512) : EReal :=
  if h : r < 2048 then x (ValueIdx.ix2 (⟨r, h⟩ : Fin 2048) j) else 0

theorem rowAt_fin (x : FVec Ideal Whole .f32) (r : Fin 2048) (j : Fin 512) : rowAt x r.val j = x (ValueIdx.ix2 r j) := dif_pos r.isLt

theorem rk_row (c : Dev Cert.KernelIdeal.nD) (k : Fin 1024) : 1024 * (rk c).val + k.val < 2048 := by
  have := (rk c).isLt; have := k.isLt; omega

/-- The row of the whole array that is row `k` of a device's block. -/
def rowOf (c : Dev Cert.KernelIdeal.nD) (k : Fin 1024) : Fin 2048 := ⟨1024 * (rk c).val + k.val, rk_row c k⟩

/-- A device's block of a whole array of rows, read at one of its rows. -/
theorem block_rows {α : Type} (c : Dev Cert.KernelIdeal.nD) (v : Whole.Idx → α) (k : Fin 1024) (j : Fin 512) :
    (Layout.blockN Block Whole (Layout.meshBlock [2, 2, 4] ![[1], []] c) v : Block.Idx → α) (ix2 k j) = v (ValueIdx.ix2 (rowOf c k) j) := by
  show v _ = v _
  congr 1
  funext a
  match a with
  | ⟨0, _⟩ =>
    refine Fin.ext ?_
    show Layout.meshLin [2, 2, 4] c.val [1] * 1024 + k.val = 1024 * (c.val / 4 % 2) + k.val
    rw [show Layout.meshLin [2, 2, 4] c.val [1] = c.val / 4 % 2 by revert c; decide, Nat.mul_comm]
  | ⟨1, _⟩ =>
    refine Fin.ext ?_
    show Layout.meshLin [2, 2, 4] c.val [] * 512 + j.val = j.val
    rw [show Layout.meshLin [2, 2, 4] c.val [] = 0 from rfl, Nat.zero_mul, Nat.zero_add]

/-- A device's block of a whole array of destinations, read at one of its rows. -/
theorem block_stretch {α : Type} (c : Dev Cert.KernelIdeal.nD) (v : Row.Idx → α) (k : Fin 1024) :
    (Layout.blockN Stretch Row (Layout.meshBlock [2, 2, 4] ![[1]] c) v : Stretch.Idx → α) (ix1 k) = v (ValueIdx.ix1 (rowOf c k)) := by
  show v _ = v _
  congr 1
  funext a
  match a with
  | ⟨0, _⟩ =>
    refine Fin.ext ?_
    show Layout.meshLin [2, 2, 4] c.val [1] * 1024 + k.val = 1024 * (c.val / 4 % 2) + k.val
    rw [show Layout.meshLin [2, 2, 4] c.val [1] = c.val / 4 % 2 by revert c; decide, Nat.mul_comm]

/-- The claim of `Defs`: from matching arrays, both programs run to the end, and wherever the mask is
    set, every device's result is its block of the reference's. -/
theorem algebraic : Cert.algebraic_KernelIdeal_ReferenceIdeal_on_balanced (hKernelIdeal := Cert.KernelIdeal.Gen.facts)
    (hReferenceIdeal := Cert.ReferenceIdeal.Gen.facts) (hOn_balanced := Cert.On_balanced.Gen.facts) := by
  intro m g m' g' _ hagree
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨?_, (h.1 c (0 : Fin 3)).trans (finalA_x m g c), (h.1 c (1 : Fin 3)).trans (finalA_d m g c)⟩)
      (run_main (F := Ideal) m g)
    intro i hi
    have hb := balanced_of_mask _ _ _ hi
    obtain ⟨n, j, rfl⟩ : ∃ (n : Fin 1024) (j : Fin 512), i = ix2 n j := ⟨i 0, i 1, eq_ix2 i⟩
    refine (congrFun ((h.1 c (2 : Fin 3)).trans (finalA_o m g c)) (ix2 n j)).trans ?_
    rw [block_rows]
    refine Eq.trans (outAt_apply m g (G := rowAt (m' (((0 : Dev Cert.ReferenceIdeal.nD).tc : Thread _ Cert.ReferenceIdeal.τ).loc Cert.ReferenceIdeal.main_arg0))) (fun c k j => ?_) (fun c k => ?_) hb c n j (rowOf c n) rfl) ?_
    · rw [(hagree c).1, block_rows]
      exact (rowAt_fin _ (rowOf c k) j).symm
    · rw [(hagree c).2, block_stretch]
      exact (wordAt_fin _ (rowOf c k)).symm
    · exact (rowAt_fin _ (hb.row (rowOf c n)) j).trans (refOut_apply _ _ hb (rowOf c n) j).symm
  · exact (θ_run Cert.ReferenceIdeal.defs _ _).mono (fun _ h => ⟨fun i _ => congrFun (h 0).1 i, (h 0).2.1, (h 0).2.2⟩)
      (Cert.ReferenceIdeal.Value.run (F := Ideal) m' g')

end Cert.Exchange

end
-- ==== Proof.lean ====
/- The claims of `Defs`, proved: the frames in `Frames`, the value in `Algebraic`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_balanced
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.On_balanced.Gen.facts,
  Cert.Exchange.frame_kernel, Cert.Exchange.frame_ideal, Cert.Exchange.frame_reference, trivial, Cert.Exchange.algebraic⟩

end Cert.Proof

end
